-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S2x16384x16x256 : Shape := ⟨4, ![2, 16384, 16, 256]⟩
abbrev S2x16384x16 : Shape := ⟨3, ![2, 16384, 16]⟩
abbrev S2x16384x8x256 : Shape := ⟨4, ![2, 16384, 8, 256]⟩
abbrev S2x16384x8 : Shape := ⟨3, ![2, 16384, 8]⟩
abbrev S256 : Shape := ⟨1, ![256]⟩
abbrev S2x16384 : Shape := ⟨2, ![2, 16384]⟩
abbrev S_ : Shape := ⟨0, ![]⟩

class Facts : Prop where
  bcast_S_S2x16384x16 : S_.BroadcastsInDim S2x16384x16 (![] : Fin 0 → Fin S2x16384x16.rank)
  reducesTo_S2x16384x16_S_d0_1_2 : S2x16384x16.ReducesTo [0, 1, 2] S_
  h_S_ : 0 < S_.numel
  bcast_S_S2x16384x8 : S_.BroadcastsInDim S2x16384x8 (![] : Fin 0 → Fin S2x16384x8.rank)
  reducesTo_S2x16384x8_S_d0_1_2 : S2x16384x8.ReducesTo [0, 1, 2] S_

variable [Facts]

def fn_part1 {F : FTy → Type} [FloatOps F] (main_arg7 : FVec F S2x16384x8 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S2x16384x8 .f32 := broadcastInDim S2x16384x8 ![] bcast_S_S2x16384x8 main_cst_6
  let main_v18 : IVec S2x16384x8 1 := cmpf .oge main_arg7 main_v17
  let main_c_7 : IVec S_ 1 := constantI S_ 1 1#1
  let main_v19 : IVec S_ 1 := (fun x v => Host.reduce IntOp.andi x v reducesTo_S2x16384x8_S_d0_1_2 h_S_) main_v18 main_c_7
  let main_v20 : IVec S_ 1 := andi main_v16 main_v19
  main_v20

def fn {F : FTy → Type} [FloatOps F] (main_arg0 : FVec F S2x16384x16x256 .fp8e5m2) (main_arg1 : FVec F S2x16384x16 .f32) (main_arg2 : FVec F S2x16384x8x256 .fp8e5m2) (main_arg3 : FVec F S2x16384x8 .f32) (main_arg4 : FVec F S2x16384x16x256 .fp8e4m3) (main_arg5 : FVec F S2x16384x16 .f32) (main_arg6 : FVec F S2x16384x8x256 .fp8e4m3) (main_arg7 : FVec F S2x16384x8 .f32) (main_arg8 : FVec F S256 .f32) (main_arg9 : FVec F S256 .f32) (main_arg10 : IVec S2x16384 32) : IVec S_ 1 :=
  let main_cst : FVec F S_ .f32 := constant S_ .f32 0x00000000#32
  let main_v0 : FVec F S2x16384x16 .f32 := broadcastInDim S2x16384x16 ![] bcast_S_S2x16384x16 main_cst
  let main_v1 : IVec S2x16384x16 1 := cmpf .oge main_arg1 main_v0
  let main_cst_0 : FVec F S_ .f32 := constant S_ .f32 0x7F800000#32
  let main_v2 : FVec F S2x16384x16 .f32 := broadcastInDim S2x16384x16 ![] bcast_S_S2x16384x16 main_cst_0
  let main_v3 : IVec S2x16384x16 1 := cmpf .olt main_arg1 main_v2
  let main_v4 : IVec S2x16384x16 1 := andi main_v1 main_v3
  let main_c : IVec S_ 1 := constantI S_ 1 1#1
  let main_v5 : IVec S_ 1 := (fun x v => Host.reduce IntOp.andi x v reducesTo_S2x16384x16_S_d0_1_2 h_S_) main_v4 main_c
  let main_cst_1 : FVec F S_ .f32 := constant S_ .f32 0x00000000#32
  let main_v6 : FVec F S2x16384x8 .f32 := broadcastInDim S2x16384x8 ![] bcast_S_S2x16384x8 main_cst_1
  let main_v7 : IVec S2x16384x8 1 := cmpf .oge main_arg3 main_v6
  let main_cst_2 : FVec F S_ .f32 := constant S_ .f32 0x7F800000#32
  let main_v8 : FVec F S2x16384x8 .f32 := broadcastInDim S2x16384x8 ![] bcast_S_S2x16384x8 main_cst_2
  let main_v9 : IVec S2x16384x8 1 := cmpf .olt main_arg3 main_v8
  let main_v10 : IVec S2x16384x8 1 := andi main_v7 main_v9
  let main_c_3 : IVec S_ 1 := constantI S_ 1 1#1
  let main_v11 : IVec S_ 1 := (fun x v => Host.reduce IntOp.andi x v reducesTo_S2x16384x8_S_d0_1_2 h_S_) main_v10 main_c_3
  let main_v12 : IVec S_ 1 := andi main_v5 main_v11
  let main_cst_4 : FVec F S_ .f32 := constant S_ .f32 0x00000000#32
  let main_v13 : FVec F S2x16384x16 .f32 := broadcastInDim S2x16384x16 ![] bcast_S_S2x16384x16 main_cst_4
  let main_v14 : IVec S2x16384x16 1 := cmpf .oge main_arg5 main_v13
  let main_c_5 : IVec S_ 1 := constantI S_ 1 1#1
  let main_v15 : IVec S_ 1 := (fun x v => Host.reduce IntOp.andi x v reducesTo_S2x16384x16_S_d0_1_2 h_S_) main_v14 main_c_5
  fn_part1 (F := F) main_arg7 main_v12 main_v15
-- ==== Kernel.lean ====
abbrev S2x16384x16x256 : Shape := ⟨4, ![2, 16384, 16, 256]⟩
abbrev S2x16384x16 : Shape := ⟨3, ![2, 16384, 16]⟩
abbrev S2x16384x8x256 : Shape := ⟨4, ![2, 16384, 8, 256]⟩
abbrev S2x16384x8 : Shape := ⟨3, ![2, 16384, 8]⟩
abbrev S256 : Shape := ⟨1, ![256]⟩
abbrev S2x16384 : Shape := ⟨2, ![2, 16384]⟩
abbrev S128 : Shape := ⟨1, ![128]⟩
abbrev S_ : Shape := ⟨0, ![]⟩
abbrev S1x128 : Shape := ⟨2, ![1, 128]⟩
abbrev S2x16x16384 : Shape := ⟨3, ![2, 16, 16384]⟩
abbrev S2x8x16384 : Shape := ⟨3, ![2, 8, 16384]⟩
abbrev S1x256 : Shape := ⟨2, ![1, 256]⟩
abbrev S2x1x16384 : Shape := ⟨3, ![2, 1, 16384]⟩
abbrev S1x128x16x256 : Shape := ⟨4, ![1, 128, 16, 256]⟩
abbrev S1x16x128 : Shape := ⟨3, ![1, 16, 128]⟩
abbrev S1x128x8x256 : Shape := ⟨4, ![1, 128, 8, 256]⟩
abbrev S1x8x128 : Shape := ⟨3, ![1, 8, 128]⟩
abbrev S1x1x128 : Shape := ⟨3, ![1, 1, 128]⟩
abbrev S128x128 : Shape := ⟨2, ![128, 128]⟩
abbrev S3x16x128 : Shape := ⟨3, ![3, 16, 128]⟩
abbrev S16x128 : Shape := ⟨2, ![16, 128]⟩
abbrev S1x1x16x128 : Shape := ⟨4, ![1, 1, 16, 128]⟩
abbrev S16 : Shape := ⟨1, ![16]⟩
abbrev S16x1 : Shape := ⟨2, ![16, 1]⟩
abbrev S8x128 : Shape := ⟨2, ![8, 128]⟩
abbrev S1x1x8x128 : Shape := ⟨4, ![1, 1, 8, 128]⟩
abbrev S8 : Shape := ⟨1, ![8]⟩
abbrev S8x1 : Shape := ⟨2, ![8, 1]⟩

abbrev nBuf : Space → Nat
  | .hbm => 34
  | .vmem => 30
  | .smem => 0
  | _ => 0

abbrev bufTy : (tb : Table) → Fin (tcTables nBuf tb) → BufTy
  | .hbm, ⟨0, _⟩ => ⟨S2x16384x16x256, .fp8e5m2⟩
  | .hbm, ⟨1, _⟩ => ⟨S2x16384x16, .f32⟩
  | .hbm, ⟨2, _⟩ => ⟨S2x16384x8x256, .fp8e5m2⟩
  | .hbm, ⟨3, _⟩ => ⟨S2x16384x8, .f32⟩
  | .hbm, ⟨4, _⟩ => ⟨S2x16384x16x256, .fp8e4m3⟩
  | .hbm, ⟨5, _⟩ => ⟨S2x16384x16, .f32⟩
  | .hbm, ⟨6, _⟩ => ⟨S2x16384x8x256, .fp8e4m3⟩
  | .hbm, ⟨7, _⟩ => ⟨S2x16384x8, .f32⟩
  | .hbm, ⟨8, _⟩ => ⟨S256, .f32⟩
  | .hbm, ⟨9, _⟩ => ⟨S256, .f32⟩
  | .hbm, ⟨10, _⟩ => ⟨S2x16384, .i32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S2x16x16384, .f32⟩
  | .hbm, ⟨24, _⟩ => ⟨S2x8x16384, .f32⟩
  | .hbm, ⟨25, _⟩ => ⟨S2x16x16384, .f32⟩
  | .hbm, ⟨26, _⟩ => ⟨S2x8x16384, .f32⟩
  | .hbm, ⟨27, _⟩ => ⟨S1x256, .f32⟩
  | .hbm, ⟨28, _⟩ => ⟨S1x256, .f32⟩
  | .hbm, ⟨29, _⟩ => ⟨S2x1x16384, .i32⟩
  | .hbm, ⟨30, _⟩ => ⟨S2x16384x16x256, .bf16⟩
  | .hbm, ⟨31, _⟩ => ⟨S2x16384x8x256, .bf16⟩
  | .hbm, ⟨32, _⟩ => ⟨S1x256, .f32⟩
  | .hbm, ⟨33, _⟩ => ⟨S1x256, .f32⟩
  | .local _ .vmem, ⟨0, _⟩ => ⟨S1x128x16x256, .fp8e5m2⟩
  | .local _ .vmem, ⟨1, _⟩ => ⟨S1x128x16x256, .fp8e5m2⟩
  | .local _ .vmem, ⟨2, _⟩ => ⟨S1x16x128, .f32⟩
  | .local _ .vmem, ⟨3, _⟩ => ⟨S1x16x128, .f32⟩
  | .local _ .vmem, ⟨4, _⟩ => ⟨S1x128x8x256, .fp8e5m2⟩
  | .local _ .vmem, ⟨5, _⟩ => ⟨S1x128x8x256, .fp8e5m2⟩
  | .local _ .vmem, ⟨6, _⟩ => ⟨S1x8x128, .f32⟩
  | .local _ .vmem, ⟨7, _⟩ => ⟨S1x8x128, .f32⟩
  | .local _ .vmem, ⟨8, _⟩ => ⟨S1x128x16x256, .fp8e4m3⟩
  | .local _ .vmem, ⟨9, _⟩ => ⟨S1x128x16x256, .fp8e4m3⟩
  | .local _ .vmem, ⟨10, _⟩ => ⟨S1x16x128, .f32⟩
  | .local _ .vmem, ⟨11, _⟩ => ⟨S1x16x128, .f32⟩
  | .local _ .vmem, ⟨12, _⟩ => ⟨S1x128x8x256, .fp8e4m3⟩
  | .local _ .vmem, ⟨13, _⟩ => ⟨S1x128x8x256, .fp8e4m3⟩
  | .local _ .vmem, ⟨14, _⟩ => ⟨S1x8x128, .f32⟩
  | .local _ .vmem, ⟨15, _⟩ => ⟨S1x8x128, .f32⟩
  | .local _ .vmem, ⟨16, _⟩ => ⟨S1x256, .f32⟩
  | .local _ .vmem, ⟨17, _⟩ => ⟨S1x256, .f32⟩
  | .local _ .vmem, ⟨18, _⟩ => ⟨S1x128, .f32⟩
  | .local _ .vmem, ⟨19, _⟩ => ⟨S1x1x128, .i32⟩
  | .local _ .vmem, ⟨20, _⟩ => ⟨S1x1x128, .i32⟩
  | .local _ .vmem, ⟨21, _⟩ => ⟨S1x128x16x256, .bf16⟩
  | .local _ .vmem, ⟨22, _⟩ => ⟨S1x128x16x256, .bf16⟩
  | .local _ .vmem, ⟨23, _⟩ => ⟨S1x128x8x256, .bf16⟩
  | .local _ .vmem, ⟨24, _⟩ => ⟨S1x128x8x256, .bf16⟩
  | .local _ .vmem, ⟨25, _⟩ => ⟨S1x256, .f32⟩
  | .local _ .vmem, ⟨26, _⟩ => ⟨S1x256, .f32⟩
  | .local _ .vmem, ⟨27, _⟩ => ⟨S128x128, .f32⟩
  | .local _ .vmem, ⟨28, _⟩ => ⟨S128x128, .f32⟩
  | .local _ .vmem, ⟨29, _⟩ => ⟨S3x16x128, .f32⟩
  | _, _ => ⟨S2x16384x16x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨2, ![2, 128], ![false, false]⟩

@[reducible] def k0_t1_loop : Scf.Loop 32 :=
  let c0_i32_29 : BitVec 32 := 0#32
  let c16_i32 : BitVec 32 := 16#32
  let v83 : BitVec 32 := Scalar.addi c0_i32_29 c16_i32
  let c1_i32_30 : BitVec 32 := 1#32
  ⟨c0_i32_29, v83, c1_i32_30⟩
def k0_off1 (k0_t1 : Fin k0_t1_loop.trips) (c0_i32_108 : BitVec 32) : Fin 4 → Nat :=
  let c0_109 : Index := 0#32
  let c0_i32_29 : BitVec 32 := 0#32
  let c1_i32_30 : BitVec 32 := 1#32
  let arg21 : BitVec 32 := Scf.iv c0_i32_29 c1_i32_30 k0_t1
  let c8_i32 : BitVec 32 := 8#32
  let v179 : BitVec 32 := Scalar.muli arg21 c8_i32
  let v180 : BitVec 32 := Scalar.addi v179 c0_i32_108
  let v181 : Index := Scalar.indexCast v180
  let c0_110 : Index := 0#32
  let c0_111 : Index := 0#32
  ![0, v181.toNat, 0, 0]
def k0_off2 (k0_t1 : Fin k0_t1_loop.trips) (c0_i32_108 : BitVec 32) : Fin 4 → Nat :=
  let c0_112 : Index := 0#32
  let c0_i32_29 : BitVec 32 := 0#32
  let c1_i32_30 : BitVec 32 := 1#32
  let arg21 : BitVec 32 := Scf.iv c0_i32_29 c1_i32_30 k0_t1
  let c8_i32 : BitVec 32 := 8#32
  let v179 : BitVec 32 := Scalar.muli arg21 c8_i32
  let v180 : BitVec 32 := Scalar.addi v179 c0_i32_108
  let v185 : Index := Scalar.indexCast v180
  let c0_113 : Index := 0#32
  let c128_114 : Index := 128#32
  ![0, v185.toNat, 0, 128]
@[reducible] def k0_t2_loop : Scf.Loop 32 :=
  let c0_i32_52 : BitVec 32 := 0#32
  let c16_i32_53 : BitVec 32 := 16#32
  let v116 : BitVec 32 := Scalar.addi c0_i32_52 c16_i32_53
  let c1_i32_54 : BitVec 32 := 1#32
  ⟨c0_i32_52, v116, c1_i32_54⟩
def k0_off3 (k0_t2 : Fin k0_t2_loop.trips) (c0_i32_123 : BitVec 32) : Fin 2 → Nat :=
  let c0_i32_52 : BitVec 32 := 0#32
  let c1_i32_54 : BitVec 32 := 1#32
  let arg21 : BitVec 32 := Scf.iv c0_i32_52 c1_i32_54 k0_t2
  let c8_i32 : BitVec 32 := 8#32
  let v179 : BitVec 32 := Scalar.muli arg21 c8_i32
  let v200 : BitVec 32 := Scalar.addi v179 c0_i32_123
  let v201 : Index := Scalar.indexCast v200
  let c0_124 : Index := 0#32
  ![v201.toNat, 0]
def k0_off4 (k0_t2 : Fin k0_t2_loop.trips) (c0_i32_123 : BitVec 32) : Fin 4 → Nat :=
  let c0_126 : Index := 0#32
  let c0_i32_52 : BitVec 32 := 0#32
  let c1_i32_54 : BitVec 32 := 1#32
  let arg21 : BitVec 32 := Scf.iv c0_i32_52 c1_i32_54 k0_t2
  let c8_i32 : BitVec 32 := 8#32
  let v179 : BitVec 32 := Scalar.muli arg21 c8_i32
  let v200 : BitVec 32 := Scalar.addi v179 c0_i32_123
  let v205 : Index := Scalar.indexCast v200
  let c0_127 : Index := 0#32
  let c0_128 : Index := 0#32
  ![0, v205.toNat, 0, 0]
def k0_off5 (k0_t2 : Fin k0_t2_loop.trips) (c0_i32_123 : BitVec 32) : Fin 4 → Nat :=
  let c0_129 : Index := 0#32
  let c0_i32_52 : BitVec 32 := 0#32
  let c1_i32_54 : BitVec 32 := 1#32
  let arg21 : BitVec 32 := Scf.iv c0_i32_52 c1_i32_54 k0_t2
  let c8_i32 : BitVec 32 := 8#32
  let v179 : BitVec 32 := Scalar.muli arg21 c8_i32
  let v200 : BitVec 32 := Scalar.addi v179 c0_i32_123
  let v209 : Index := Scalar.indexCast v200
  let c0_130 : Index := 0#32
  let c128_131 : Index := 128#32
  ![0, v209.toNat, 0, 128]
@[reducible] def k0_t3_loop : Scf.Loop 32 :=
  let c0_i32_67 : BitVec 32 := 0#32
  let c16_i32_68 : BitVec 32 := 16#32
  let v132 : BitVec 32 := Scalar.addi c0_i32_67 c16_i32_68
  let c1_i32_69 : BitVec 32 := 1#32
  ⟨c0_i32_67, v132, c1_i32_69⟩
def k0_off6 (k0_t3 : Fin k0_t3_loop.trips) (c0_i32_108 : BitVec 32) : Fin 4 → Nat :=
  let c0_109 : Index := 0#32
  let c0_i32_67 : BitVec 32 := 0#32
  let c1_i32_69 : BitVec 32 := 1#32
  let arg21 : BitVec 32 := Scf.iv c0_i32_67 c1_i32_69 k0_t3
  let c8_i32 : BitVec 32 := 8#32
  let v179 : BitVec 32 := Scalar.muli arg21 c8_i32
  let v180 : BitVec 32 := Scalar.addi v179 c0_i32_108
  let v181 : Index := Scalar.indexCast v180
  let c0_110 : Index := 0#32
  let c0_111 : Index := 0#32
  ![0, v181.toNat, 0, 0]
def k0_off7 (k0_t3 : Fin k0_t3_loop.trips) (c0_i32_108 : BitVec 32) : Fin 4 → Nat :=
  let c0_112 : Index := 0#32
  let c0_i32_67 : BitVec 32 := 0#32
  let c1_i32_69 : BitVec 32 := 1#32
  let arg21 : BitVec 32 := Scf.iv c0_i32_67 c1_i32_69 k0_t3
  let c8_i32 : BitVec 32 := 8#32
  let v179 : BitVec 32 := Scalar.muli arg21 c8_i32
  let v180 : BitVec 32 := Scalar.addi v179 c0_i32_108
  let v185 : Index := Scalar.indexCast v180
  let c0_113 : Index := 0#32
  let c128_114 : Index := 128#32
  ![0, v185.toNat, 0, 128]
@[reducible] def k0_t4_loop : Scf.Loop 32 :=
  let c0_i32_94 : BitVec 32 := 0#32
  let c16_i32_95 : BitVec 32 := 16#32
  let v165 : BitVec 32 := Scalar.addi c0_i32_94 c16_i32_95
  let c1_i32_96 : BitVec 32 := 1#32
  ⟨c0_i32_94, v165, c1_i32_96⟩
def k0_off8 (k0_t4 : Fin k0_t4_loop.trips) (c0_i32_123 : BitVec 32) : Fin 2 → Nat :=
  let c0_i32_94 : BitVec 32 := 0#32
  let c1_i32_96 : BitVec 32 := 1#32
  let arg21 : BitVec 32 := Scf.iv c0_i32_94 c1_i32_96 k0_t4
  let c8_i32 : BitVec 32 := 8#32
  let v179 : BitVec 32 := Scalar.muli arg21 c8_i32
  let v200 : BitVec 32 := Scalar.addi v179 c0_i32_123
  let v201 : Index := Scalar.indexCast v200
  let c0_124 : Index := 0#32
  ![v201.toNat, 0]
def k0_off9 (k0_t4 : Fin k0_t4_loop.trips) (c0_i32_123 : BitVec 32) : Fin 4 → Nat :=
  let c0_126 : Index := 0#32
  let c0_i32_94 : BitVec 32 := 0#32
  let c1_i32_96 : BitVec 32 := 1#32
  let arg21 : BitVec 32 := Scf.iv c0_i32_94 c1_i32_96 k0_t4
  let c8_i32 : BitVec 32 := 8#32
  let v179 : BitVec 32 := Scalar.muli arg21 c8_i32
  let v200 : BitVec 32 := Scalar.addi v179 c0_i32_123
  let v205 : Index := Scalar.indexCast v200
  let c0_127 : Index := 0#32
  let c0_128 : Index := 0#32
  ![0, v205.toNat, 0, 0]
def k0_off10 (k0_t4 : Fin k0_t4_loop.trips) (c0_i32_123 : BitVec 32) : Fin 4 → Nat :=
  let c0_129 : Index := 0#32
  let c0_i32_94 : BitVec 32 := 0#32
  let c1_i32_96 : BitVec 32 := 1#32
  let arg21 : BitVec 32 := Scf.iv c0_i32_94 c1_i32_96 k0_t4
  let c8_i32 : BitVec 32 := 8#32
  let v179 : BitVec 32 := Scalar.muli arg21 c8_i32
  let v200 : BitVec 32 := Scalar.addi v179 c0_i32_123
  let v209 : Index := Scalar.indexCast v200
  let c0_130 : Index := 0#32
  let c128_131 : Index := 128#32
  ![0, v209.toNat, 0, 128]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x16x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8x256 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x16x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x16x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x8x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S2x16384x16x256 : Shape := ⟨4, ![2, 16384, 16, 256]⟩
abbrev S2x16384x16 : Shape := ⟨3, ![2, 16384, 16]⟩
abbrev S2x16384x8x256 : Shape := ⟨4, ![2, 16384, 8, 256]⟩
abbrev S2x16384x8 : Shape := ⟨3, ![2, 16384, 8]⟩
abbrev S256 : Shape := ⟨1, ![256]⟩
abbrev S2x16384 : Shape := ⟨2, ![2, 16384]⟩
abbrev S128 : Shape := ⟨1, ![128]⟩
abbrev S_ : Shape := ⟨0, ![]⟩
abbrev S2x16384x1 : Shape := ⟨3, ![2, 16384, 1]⟩
abbrev S1x1x128 : Shape := ⟨3, ![1, 1, 128]⟩
abbrev S2x16384x128 : Shape := ⟨3, ![2, 16384, 128]⟩
abbrev S2x16384x1x128 : Shape := ⟨4, ![2, 16384, 1, 128]⟩
abbrev S2x16384x16x1 : Shape := ⟨4, ![2, 16384, 16, 1]⟩
abbrev S2x16384x16x128 : Shape := ⟨4, ![2, 16384, 16, 128]⟩
abbrev S1x1x1x256 : Shape := ⟨4, ![1, 1, 1, 256]⟩
abbrev S1x256 : Shape := ⟨2, ![1, 256]⟩
abbrev S2x16384x8x1 : Shape := ⟨4, ![2, 16384, 8, 1]⟩
abbrev S2x16384x8x128 : Shape := ⟨4, ![2, 16384, 8, 128]⟩

abbrev nBuf : Space → Nat
  | .hbm => 210
  | .vmem => 8
  | .smem => 0
  | _ => 0

abbrev hbmTy0_0 (i : Nat) : BufTy := match i % 128 with
  | 0 => ⟨S2x16384x16x256, .fp8e5m2⟩
  | 1 => ⟨S2x16384x16, .f32⟩
  | 2 => ⟨S2x16384x8x256, .fp8e5m2⟩
  | 3 => ⟨S2x16384x8, .f32⟩
  | 4 => ⟨S2x16384x16x256, .fp8e4m3⟩
  | 5 => ⟨S2x16384x16, .f32⟩
  | 6 => ⟨S2x16384x8x256, .fp8e4m3⟩
  | 7 => ⟨S2x16384x8, .f32⟩
  | 8 => ⟨S256, .f32⟩
  | 9 => ⟨S256, .f32⟩
  | 10 => ⟨S2x16384, .i32⟩
  | 11 => ⟨S2x16384x16x256, .f32⟩
  | 12 => ⟨S2x16384x8x256, .f32⟩
  | 13 => ⟨S2x16384x16x256, .f32⟩
  | 14 => ⟨S2x16384x8x256, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128, .f32⟩
  | 23 => ⟨S_, .f32⟩
  | 24 => ⟨S128, .f32⟩
  | 25 => ⟨S128, .f32⟩
  | 26 => ⟨S2x16384, .f32⟩
  | 27 => ⟨S2x16384x1, .f32⟩
  | 28 => ⟨S1x1x128, .f32⟩
  | 29 => ⟨S2x16384x128, .f32⟩
  | 30 => ⟨S2x16384x128, .f32⟩
  | 31 => ⟨S2x16384x128, .f32⟩
  | 32 => ⟨S_, .f32⟩
  | 33 => ⟨S2x16384x128, .f32⟩
  | 34 => ⟨S2x16384x128, .f32⟩
  | 35 => ⟨S2x16384x128, .f32⟩
  | 36 => ⟨S_, .f32⟩
  | 37 => ⟨S2x16384x128, .f32⟩
  | 38 => ⟨S2x16384x128, .f32⟩
  | 39 => ⟨S2x16384x128, .f32⟩
  | 40 => ⟨S_, .f32⟩
  | 41 => ⟨S2x16384x128, .f32⟩
  | 42 => ⟨S2x16384x128, .f32⟩
  | 43 => ⟨S2x16384x128, .f32⟩
  | 44 => ⟨S_, .f32⟩
  | 45 => ⟨S2x16384x128, .f32⟩
  | 46 => ⟨S2x16384x128, .f32⟩
  | 47 => ⟨S2x16384x128, .f32⟩
  | 48 => ⟨S2x16384x128, .f32⟩
  | 49 => ⟨S2x16384x128, .f32⟩
  | 50 => ⟨S_, .f32⟩
  | 51 => ⟨S2x16384x128, .f32⟩
  | 52 => ⟨S2x16384x128, .f32⟩
  | 53 => ⟨S_, .f32⟩
  | 54 => ⟨S2x16384x128, .f32⟩
  | 55 => ⟨S2x16384x128, .f32⟩
  | 56 => ⟨S2x16384x128, .f32⟩
  | 57 => ⟨S_, .f32⟩
  | 58 => ⟨S2x16384x128, .f32⟩
  | 59 => ⟨S2x16384x128, .f32⟩
  | 60 => ⟨S2x16384x128, .f32⟩
  | 61 => ⟨S2x16384x128, .f32⟩
  | 62 => ⟨S_, .f32⟩
  | 63 => ⟨S2x16384x128, .f32⟩
  | 64 => ⟨S2x16384x128, .f32⟩
  | 65 => ⟨S_, .f32⟩
  | 66 => ⟨S2x16384x128, .f32⟩
  | 67 => ⟨S2x16384x128, .f32⟩
  | 68 => ⟨S2x16384x128, .f32⟩
  | 69 => ⟨S_, .f32⟩
  | 70 => ⟨S2x16384x128, .f32⟩
  | 71 => ⟨S2x16384x128, .f32⟩
  | 72 => ⟨S_, .f32⟩
  | 73 => ⟨S2x16384x128, .f32⟩
  | 74 => ⟨S2x16384x128, .f32⟩
  | 75 => ⟨S2x16384x128, .f32⟩
  | 76 => ⟨S_, .f32⟩
  | 77 => ⟨S2x16384x128, .f32⟩
  | 78 => ⟨S2x16384x128, .f32⟩
  | 79 => ⟨S2x16384x128, .f32⟩
  | 80 => ⟨S2x16384x128, .f32⟩
  | 81 => ⟨S2x16384x128, .i32⟩
  | 82 => ⟨S_, .i32⟩
  | 83 => ⟨S2x16384x128, .i32⟩
  | 84 => ⟨S2x16384x128, .i32⟩
  | 85 => ⟨S_, .i32⟩
  | 86 => ⟨S2x16384x128, .i32⟩
  | 87 => ⟨S2x16384x128, .i1⟩
  | 88 => ⟨S_, .i32⟩
  | 89 => ⟨S2x16384x128, .i32⟩
  | 90 => ⟨S2x16384x128, .i1⟩
  | 91 => ⟨S_, .i32⟩
  | 92 => ⟨S2x16384x128, .i32⟩
  | 93 => ⟨S2x16384x128, .i1⟩
  | 94 => ⟨S2x16384x128, .f32⟩
  | 95 => ⟨S2x16384x128, .f32⟩
  | 96 => ⟨S2x16384x128, .f32⟩
  | 97 => ⟨S2x16384x128, .f32⟩
  | 98 => ⟨S2x16384x128, .f32⟩
  | 99 => ⟨S2x16384x128, .f32⟩
  | 100 => ⟨S2x16384x128, .f32⟩
  | 101 => ⟨S2x16384x128, .f32⟩
  | 102 => ⟨S2x16384x128, .f32⟩
  | 103 => ⟨S2x16384x128, .f32⟩
  | 104 => ⟨S2x16384x1x128, .f32⟩
  | 105 => ⟨S2x16384x1x128, .f32⟩
  | 106 => ⟨S2x16384x16x1, .f32⟩
  | 107 => ⟨S2x16384x16x256, .f32⟩
  | 108 => ⟨S2x16384x16x256, .f32⟩
  | 109 => ⟨S2x16384x16x1, .f32⟩
  | 110 => ⟨S2x16384x16x256, .f32⟩
  | 111 => ⟨S2x16384x16x256, .f32⟩
  | 112 => ⟨S2x16384x16x128, .f32⟩
  | 113 => ⟨S2x16384x16x128, .f32⟩
  | 114 => ⟨S2x16384x16x128, .f32⟩
  | 115 => ⟨S2x16384x16x128, .f32⟩
  | 116 => ⟨S2x16384x16x128, .f32⟩
  | 117 => ⟨S2x16384x16x128, .f32⟩
  | 118 => ⟨S2x16384x16x128, .f32⟩
  | 119 => ⟨S2x16384x16x128, .f32⟩
  | 120 => ⟨S2x16384x16x128, .f32⟩
  | 121 => ⟨S2x16384x16x128, .f32⟩
  | 122 => ⟨S2x16384x16x128, .f32⟩
  | 123 => ⟨S2x16384x16x128, .f32⟩
  | 124 => ⟨S2x16384x16x256, .f32⟩
  | 125 => ⟨S2x16384x16x256, .f32⟩
  | 126 => ⟨S_, .f32⟩
  | 127 => ⟨S2x16384x16, .f32⟩
  | _ => ⟨S2x16384x16x256, .fp8e5m2⟩

abbrev hbmTy0_1 (i : Nat) : BufTy := match i % 128 with
  | 0 => ⟨S2x16384x16x1, .f32⟩
  | 1 => ⟨S_, .f32⟩
  | 2 => ⟨S2x16384x16x1, .f32⟩
  | 3 => ⟨S2x16384x16x1, .f32⟩
  | 4 => ⟨S_, .f32⟩
  | 5 => ⟨S2x16384x16x1, .f32⟩
  | 6 => ⟨S2x16384x16x1, .f32⟩
  | 7 => ⟨S2x16384x16x1, .f32⟩
  | 8 => ⟨S2x16384x16x256, .f32⟩
  | 9 => ⟨S2x16384x16x256, .f32⟩
  | 10 => ⟨S2x16384x16x256, .f32⟩
  | 11 => ⟨S_, .f32⟩
  | 12 => ⟨S256, .f32⟩
  | 13 => ⟨S1x1x1x256, .f32⟩
  | 14 => ⟨S2x16384x16x256, .f32⟩
  | 15 => ⟨S2x16384x16x256, .f32⟩
  | 16 => ⟨S2x16384x16x256, .f32⟩
  | 17 => ⟨S_, .f32⟩
  | 18 => ⟨S2x16384x16, .f32⟩
  | 19 => ⟨S2x16384x16x1, .f32⟩
  | 20 => ⟨S_, .f32⟩
  | 21 => ⟨S2x16384x16x1, .f32⟩
  | 22 => ⟨S2x16384x16x1, .f32⟩
  | 23 => ⟨S2x16384x16x256, .f32⟩
  | 24 => ⟨S2x16384x16x256, .f32⟩
  | 25 => ⟨S2x16384x16x256, .f32⟩
  | 26 => ⟨S2x16384x16x256, .f32⟩
  | 27 => ⟨S2x16384x16x256, .f32⟩
  | 28 => ⟨S2x16384x16x256, .bf16⟩
  | 29 => ⟨S1x256, .f32⟩
  | 30 => ⟨S2x16384x8x1, .f32⟩
  | 31 => ⟨S2x16384x8x256, .f32⟩
  | 32 => ⟨S2x16384x8x256, .f32⟩
  | 33 => ⟨S2x16384x8x1, .f32⟩
  | 34 => ⟨S2x16384x8x256, .f32⟩
  | 35 => ⟨S2x16384x8x256, .f32⟩
  | 36 => ⟨S2x16384x8x128, .f32⟩
  | 37 => ⟨S2x16384x8x128, .f32⟩
  | 38 => ⟨S2x16384x8x128, .f32⟩
  | 39 => ⟨S2x16384x8x128, .f32⟩
  | 40 => ⟨S2x16384x8x128, .f32⟩
  | 41 => ⟨S2x16384x8x128, .f32⟩
  | 42 => ⟨S2x16384x8x128, .f32⟩
  | 43 => ⟨S2x16384x8x128, .f32⟩
  | 44 => ⟨S2x16384x8x128, .f32⟩
  | 45 => ⟨S2x16384x8x128, .f32⟩
  | 46 => ⟨S2x16384x8x128, .f32⟩
  | 47 => ⟨S2x16384x8x128, .f32⟩
  | 48 => ⟨S2x16384x8x256, .f32⟩
  | 49 => ⟨S2x16384x8x256, .f32⟩
  | 50 => ⟨S_, .f32⟩
  | 51 => ⟨S2x16384x8, .f32⟩
  | 52 => ⟨S2x16384x8x1, .f32⟩
  | 53 => ⟨S_, .f32⟩
  | 54 => ⟨S2x16384x8x1, .f32⟩
  | 55 => ⟨S2x16384x8x1, .f32⟩
  | 56 => ⟨S_, .f32⟩
  | 57 => ⟨S2x16384x8x1, .f32⟩
  | 58 => ⟨S2x16384x8x1, .f32⟩
  | 59 => ⟨S2x16384x8x1, .f32⟩
  | 60 => ⟨S2x16384x8x256, .f32⟩
  | 61 => ⟨S2x16384x8x256, .f32⟩
  | 62 => ⟨S2x16384x8x256, .f32⟩
  | 63 => ⟨S_, .f32⟩
  | 64 => ⟨S256, .f32⟩
  | 65 => ⟨S1x1x1x256, .f32⟩
  | 66 => ⟨S2x16384x8x256, .f32⟩
  | 67 => ⟨S2x16384x8x256, .f32⟩
  | 68 => ⟨S2x16384x8x256, .f32⟩
  | 69 => ⟨S_, .f32⟩
  | 70 => ⟨S2x16384x8, .f32⟩
  | 71 => ⟨S2x16384x8x1, .f32⟩
  | 72 => ⟨S_, .f32⟩
  | 73 => ⟨S2x16384x8x1, .f32⟩
  | 74 => ⟨S2x16384x8x1, .f32⟩
  | 75 => ⟨S2x16384x8x256, .f32⟩
  | 76 => ⟨S2x16384x8x256, .f32⟩
  | 77 => ⟨S2x16384x8x256, .f32⟩
  | 78 => ⟨S2x16384x8x256, .f32⟩
  | 79 => ⟨S2x16384x8x256, .f32⟩
  | 80 => ⟨S2x16384x8x256, .bf16⟩
  | 81 => ⟨S1x256, .f32⟩
  | _ => ⟨S2x16384x16x256, .fp8e5m2⟩

abbrev hbmTy (i : Nat) : BufTy := match i / 128 with
  | 0 => hbmTy0_0 i
  | 1 => hbmTy0_1 i
  | _ => ⟨S2x16384x16x256, .fp8e5m2⟩

abbrev bufTy : (tb : Table) → Fin (tcTables nBuf tb) → BufTy
  | .hbm, ⟨i, _⟩ => hbmTy i
  | .local _ .vmem, ⟨0, _⟩ => ⟨S2x16384x16x256, .fp8e5m2⟩
  | .local _ .vmem, ⟨1, _⟩ => ⟨S2x16384x8x256, .fp8e5m2⟩
  | .local _ .vmem, ⟨2, _⟩ => ⟨S2x16384x16x256, .fp8e4m3⟩
  | .local _ .vmem, ⟨3, _⟩ => ⟨S2x16384x8x256, .fp8e4m3⟩
  | .local _ .vmem, ⟨4, _⟩ => ⟨S2x16384x16x256, .f32⟩
  | .local _ .vmem, ⟨5, _⟩ => ⟨S2x16384x8x256, .f32⟩
  | .local _ .vmem, ⟨6, _⟩ => ⟨S2x16384x16x256, .f32⟩
  | .local _ .vmem, ⟨7, _⟩ => ⟨S2x16384x8x256, .f32⟩
  | _, _ => ⟨S2x16384x16x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_c_15 : Ref sig .tc := ⟨.hbm, 88, rfl⟩
abbrev main_v57 : Ref sig .tc := ⟨.hbm, 89, rfl⟩
abbrev main_v58 : Ref sig .tc := ⟨.hbm, 90, rfl⟩
abbrev main_c_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_20 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_21 : Ref sig .tc := ⟨.hbm, 145, rfl⟩
abbrev main_v108 : Ref sig .tc := ⟨.hbm, 146, rfl⟩
abbrev main_v109 : Ref sig .tc := ⟨.hbm, 147, rfl⟩
abbrev main_cst_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_23 : Ref sig .tc := ⟨.hbm, 178, rfl⟩
abbrev main_v139 : Ref sig .tc := ⟨.hbm, 179, rfl⟩
abbrev main_v140 : Ref sig .tc := ⟨.hbm, 180, rfl⟩
abbrev main_cst_24 : Ref sig .tc := ⟨.hbm, 181, rfl⟩
abbrev main_v141 : Ref sig .tc := ⟨.hbm, 182, rfl⟩
abbrev main_v142 : Ref sig .tc := ⟨.hbm, 183, rfl⟩
abbrev main_cst_25 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_26 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_27 : Ref sig .tc := ⟨.hbm, 197, rfl⟩
abbrev main_v154 : Ref sig .tc := ⟨.hbm, 198, rfl⟩
abbrev main_v155 : Ref sig .tc := ⟨.hbm, 199, rfl⟩
abbrev main_cst_28 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x16384x16x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x8x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x16x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x8x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Refs.lean ====
/-
  The references the kernel's body is handed, as one record.
-/
module

public import proofs.«01_k».proof.Proof.Gen.KernelIdeal.Loops

@[expose] public section

namespace Cert.KernelIdeal.Value

open Idealize.ShloMosaic Cert.KernelIdeal Cert.KernelIdeal.Gen

structure Refs where
  arg2 : Memref sig .tc .vmem S1x128x16x256 .fp8e5m2
  harg2 : arg2.IsWhole
  arg3 : Memref sig .tc .vmem S1x16x128 .f32
  harg3 : arg3.IsWhole
  arg4 : Memref sig .tc .vmem S1x128x8x256 .fp8e5m2
  harg4 : arg4.IsWhole
  arg5 : Memref sig .tc .vmem S1x8x128 .f32
  harg5 : arg5.IsWhole
  arg6 : Memref sig .tc .vmem S1x128x16x256 .fp8e4m3
  harg6 : arg6.IsWhole
  arg7 : Memref sig .tc .vmem S1x16x128 .f32
  harg7 : arg7.IsWhole
  arg8 : Memref sig .tc .vmem S1x128x8x256 .fp8e4m3
  harg8 : arg8.IsWhole
  arg9 : Memref sig .tc .vmem S1x8x128 .f32
  harg9 : arg9.IsWhole
  arg10 : Memref sig .tc .vmem S1x256 .f32
  harg10 : arg10.IsWhole
  arg11 : Memref sig .tc .vmem S1x256 .f32
  harg11 : arg11.IsWhole
  arg12 : Memref sig .tc .vmem S1x128 .f32
  harg12 : arg12.IsWhole
  arg13 : Memref sig .tc .vmem S1x1x128 .i32
  harg13 : arg13.IsWhole
  arg14 : Memref sig .tc .vmem S1x128x16x256 .bf16
  harg14 : arg14.IsWhole
  arg15 : Memref sig .tc .vmem S1x128x8x256 .bf16
  harg15 : arg15.IsWhole
  arg16 : Memref sig .tc .vmem S1x256 .f32
  harg16 : arg16.IsWhole
  arg17 : Memref sig .tc .vmem S1x256 .f32
  harg17 : arg17.IsWhole
  arg18 : Memref sig .tc .vmem S128x128 .f32
  harg18 : arg18.IsWhole
  arg19 : Memref sig .tc .vmem S128x128 .f32
  harg19 : arg19.IsWhole
  arg20 : Memref sig .tc .vmem S3x16x128 .f32
  harg20 : arg20.IsWhole

end Cert.KernelIdeal.Value

end
-- ==== Proof.Rows.lean ====
/-
  One token of one pass over the rows, as vector operations, and what each reads at an index.

  The kernel makes the same pass twice, over 16 query heads and over 8 key heads; everything here is stated once, for
  a number `H` of heads. `ssStep` puts one token's sum of squares on its lane of the running vector, `rotated` turns a
  row of per-token factors so that the eight tokens of the trip come to lanes 0 … 7, `d1`/`d2` turn the incoming
  gradient back, `accStep` adds a token to the gradient of the gain, and `dxPiece` is what is stored.
-/
module

public import Idealize.ShloMosaic.Lib.Pointwise
public import Idealize.ShloMosaic.Lib.KernelVsHost

@[expose] public section

set_option maxRecDepth 16384

noncomputable section

namespace Cert.Rows

open Idealize.ShloMosaic Idealize.ShloMosaic.Pointwise

abbrev W4 (H : ℕ) : Shape := ⟨4, ![1, 1, H, 128]⟩
abbrev W3 (H : ℕ) : Shape := ⟨3, ![1, H, 128]⟩
abbrev W (H : ℕ) : Shape := ⟨2, ![H, 128]⟩
abbrev C (H : ℕ) : Shape := ⟨2, ![H, 1]⟩
abbrev V (H : ℕ) : Shape := ⟨1, ![H]⟩
abbrev R : Shape := ⟨2, ![1, 128]⟩
abbrev L : Shape := ⟨1, ![128]⟩

/-- The shape facts the operations of a pass take. -/
structure Ok (H : ℕ) : Prop where
  c42 : (W4 H).ShapeCasts (W H)
  c24 : (W H).ShapeCasts (W4 H)
  c32 : (W3 H).ShapeCasts (W H)
  c23 : (W H).ShapeCasts (W3 H)
  c12 : (V H).ShapeCasts (C H)
  c11 : (C H).ShapeCasts (C H)
  red : (W H).Reduces [1] (V H)
  bc : (C H).Broadcasts (W H)
  br : R.Broadcasts (W H)
  rot : (W H).Rotates 1 none
  sl : ∀ j : Fin 8, (W H).Slices ![0, j.val] (C H)
  red0 : (W H).Reduces [0] L
  cR : L.ShapeCasts R
  cRR : R.ShapeCasts R

theorem ok16 : Ok 16 := by constructor <;> decide
theorem ok8 : Ok 8 := by constructor <;> decide

variable {H : ℕ}

abbrev bits8 : FTy.bits .fp8e4m3 < FTy.bits .f32 := by decide
abbrev bits8' : FTy.bits .fp8e5m2 < FTy.bits .f32 := by decide
abbrev bits16 : FTy.bits .bf16 < FTy.bits .f32 := by decide

/-- A token's codes, as floats. -/
def wide (o : Ok H) (v : FVec Ideal (W4 H) .fp8e4m3) : FVec Ideal (W H) .f32 :=
  extf .f32 (shapeCast (W H) v o.c42) bits8
def wide' (o : Ok H) (v : FVec Ideal (W4 H) .fp8e5m2) : FVec Ideal (W H) .f32 :=
  extf .f32 (shapeCast (W H) v o.c42) bits8'

/-- A token's sums of squares, put on its lane. -/
def ssStep (o : Ok H) (lane : IVec (W H) 32) (t : BitVec 32) (x1 x2 : FVec Ideal (W4 H) .fp8e4m3)
    (acc : FVec Ideal (W H) .f32) : FVec Ideal (W H) .f32 :=
  select (cmpi .eq lane (broadcast (W H) t))
    (broadcastTo (W H) (shapeCast (C H) (shapeCast (C H)
      (multiReduction .add [1] (V H) (addf (mulf (wide o x1) (wide o x1)) (mulf (wide o x2) (wide o x2)))
        0x00000000#32 o.red (.inl rfl) rfl) o.c12) o.c11) o.bc) acc

/-- The rotation that brings lane `8k` to lane 0. -/
def rotated (o : Ok H) (shift : BitVec 32) (v : FVec Ideal (W3 H) .f32) : FVec Ideal (W H) .f32 :=
  dynamicRotate 1 shift none (shapeCast (W H) v o.c32) o.rot

/-- A row of the two halves turned back. -/
def d1 (o : Ok H) (c s : FVec Ideal R .f32) (y1 y2 : FVec Ideal (W H) .f32) : FVec Ideal (W H) .f32 :=
  addf (mulf y1 (broadcastTo (W H) c o.br)) (mulf y2 (broadcastTo (W H) s o.br))
def d2 (o : Ok H) (c s : FVec Ideal R .f32) (y1 y2 : FVec Ideal (W H) .f32) : FVec Ideal (W H) .f32 :=
  subf (mulf y2 (broadcastTo (W H) c o.br)) (mulf y1 (broadcastTo (W H) s o.br))

/-- A token's factor, on every lane. -/
def factor (o : Ok H) (w : FVec Ideal (W H) .f32) (j : Fin 8) : FVec Ideal (C H) .f32 :=
  extractStridedSlice (C H) ![0, j.val] w (o.sl j)

/-- A token added to the gradient of the gain. -/
def accStep (o : Ok H) (acc v w : FVec Ideal (W H) .f32) (j : Fin 8) : FVec Ideal (W H) .f32 :=
  addf acc (mulf v (broadcastTo (W H) (factor o w j) o.bc))

/-- The factor of the code in the gradient. -/
def back (o : Ok H) (alpha v1 v2 : FVec Ideal (W H) .f32) (g1 g2 : FVec Ideal R .f32) (j : Fin 8) : FVec Ideal (C H) .f32 :=
  mulf (factor o alpha j) (shapeCast (C H)
    (multiReduction .add [1] (V H) (addf (mulf v1 (broadcastTo (W H) g1 o.br)) (mulf v2 (broadcastTo (W H) g2 o.br)))
      0x00000000#32 o.red (.inl rfl) rfl) o.c12)

/-- What is stored for one half of a token. -/
def dxPiece (o : Ok H) (out d x : FVec Ideal (W H) .f32) (g : FVec Ideal R .f32) (b : FVec Ideal (C H) .f32) (j : Fin 8) :
    FVec Ideal (W4 H) .bf16 :=
  shapeCast (W4 H) (truncf .bf16 (mulf (broadcastTo (W H) (factor o out j) o.bc)
    (subf (mulf d (broadcastTo (W H) g o.br)) (mulf (broadcastTo (W H) b o.bc) x))) bits16) o.c24

/-- The gradient of the gain with a block's rows added. -/
def dgStep (o : Ok H) (acc : FVec Ideal (W H) .f32) (old : FVec Ideal R .f32) : FVec Ideal R .f32 :=
  addf (shapeCast R old o.cRR) (shapeCast R (multiReduction .add [0] L acc 0x00000000#32 o.red0 (.inl rfl) rfl) o.cR)

theorem select_eq (a b : BitVec 32) (x y : EReal) :
    Scalar.select (IntOp.cmpi .eq a b) x y = if a = b then x else y := by
  by_cases h : a = b
  · subst h; simp [Scalar.select, IntOp.cmpi]
  · have : (a == b) = false := beq_eq_false_iff_ne.2 h
    simp [Scalar.select, IntOp.cmpi, this, h]

section Read

variable (hH : H = 16 ∨ H = 8) (o : Ok H)
include hH

theorem wide_apply (v : FVec Ideal (W4 H) .fp8e4m3) (h : Fin H) (n : Fin 128) : wide o v (ix2 h n) = v (ix4 0 0 h n) := by
  rcases hH with rfl | rfl <;> pointwise [wide]

theorem wide'_apply (v : FVec Ideal (W4 H) .fp8e5m2) (h : Fin H) (n : Fin 128) : wide' o v (ix2 h n) = v (ix4 0 0 h n) := by
  rcases hH with rfl | rfl <;> pointwise [wide']

theorem ssStep_apply (lane : IVec (W H) 32) (t : BitVec 32) (x1 x2 : FVec Ideal (W4 H) .fp8e4m3)
    (acc : FVec Ideal (W H) .f32) (h : Fin H) (n : Fin 128) :
    ssStep o lane t x1 x2 acc (ix2 h n) = if lane (ix2 h n) = t then
      ∑ l : Fin 128, (x1 (ix4 0 0 h l) * x1 (ix4 0 0 h l) + x2 (ix4 0 0 h l) * x2 (ix4 0 0 h l)) else acc (ix2 h n) := by
  rcases hH with rfl | rfl <;> pointwise [ssStep, wide] <;>
    exact select_eq _ _ _ _

theorem d1_apply (c s : FVec Ideal R .f32) (y1 y2 : FVec Ideal (W H) .f32) (h : Fin H) (n : Fin 128) :
    d1 o c s y1 y2 (ix2 h n) = y1 (ix2 h n) * c (ix2 0 n) + y2 (ix2 h n) * s (ix2 0 n) := by
  rcases hH with rfl | rfl <;> pointwise [d1]

theorem d2_apply (c s : FVec Ideal R .f32) (y1 y2 : FVec Ideal (W H) .f32) (h : Fin H) (n : Fin 128) :
    d2 o c s y1 y2 (ix2 h n) = y2 (ix2 h n) * c (ix2 0 n) - y1 (ix2 h n) * s (ix2 0 n) := by
  rcases hH with rfl | rfl <;> pointwise [d2]

theorem factor_apply (w : FVec Ideal (W H) .f32) (j : Fin 8) (h : Fin H) (n : Fin 1) :
    factor o w j (ix2 h n) = w (ix2 h ⟨j.val, by omega⟩) := by
  rcases hH with rfl | rfl <;> pointwise [factor]

theorem accStep_apply (acc v w : FVec Ideal (W H) .f32) (j : Fin 8) (h : Fin H) (n : Fin 128) :
    accStep o acc v w j (ix2 h n) = acc (ix2 h n) + v (ix2 h n) * w (ix2 h ⟨j.val, by omega⟩) := by
  rw [← factor_apply hH o w j h 0]
  rcases hH with rfl | rfl <;> pointwise [accStep]

theorem back_apply (alpha v1 v2 : FVec Ideal (W H) .f32) (g1 g2 : FVec Ideal R .f32) (j : Fin 8) (h : Fin H) (n : Fin 1) :
    back o alpha v1 v2 g1 g2 j (ix2 h n) = alpha (ix2 h ⟨j.val, by omega⟩)
      * ∑ l : Fin 128, (v1 (ix2 h l) * g1 (ix2 0 l) + v2 (ix2 h l) * g2 (ix2 0 l)) := by
  rw [← factor_apply hH o alpha j h n]
  rcases hH with rfl | rfl <;> pointwise [back]

theorem dxPiece_apply (out d x : FVec Ideal (W H) .f32) (g : FVec Ideal R .f32) (b : FVec Ideal (C H) .f32) (j : Fin 8)
    (a a' : Fin 1) (h : Fin H) (n : Fin 128) :
    dxPiece o out d x g b j (ix4 a a' h n)
      = out (ix2 h ⟨j.val, by omega⟩) * (d (ix2 h n) * g (ix2 0 n) - b (ix2 h 0) * x (ix2 h n)) := by
  rw [← factor_apply hH o out j h 0]
  rcases hH with rfl | rfl <;> pointwise [dxPiece]

theorem dgStep_apply (acc : FVec Ideal (W H) .f32) (old : FVec Ideal R .f32) (a : Fin 1) (n : Fin 128) :
    dgStep o acc old (ix2 a n) = old (ix2 0 n) + ∑ h : Fin H, acc (ix2 h n) := by
  obtain rfl : a = 0 := Subsingleton.elim _ _
  rcases hH with rfl | rfl <;> pointwise [dgStep]

theorem rotated_apply (shift : BitVec 32) (v : FVec Ideal (W3 H) .f32) (h : Fin H) (n : Fin 128) (l : Fin 128)
    (hl : l.val = (n.val + 128 - shift.toNat % 128) % 128) :
    rotated o shift v (ix2 h n) = v (ix3 0 h l) := by
  unfold rotated
  rw [dynamicRotate_apply 1 shift _ o.rot _ (ix2 h l) (by
    intro b
    match b with
    | ⟨0, _⟩ => rfl
    | ⟨1, _⟩ => exact hl)]
  rcases hH with rfl | rfl <;> pointwise

end Read

end Cert.Rows

end
-- ==== Proof.Trip.lean ====
/-
  One trip of each loop (eight tokens), over any number of heads, and what the loop leaves after sixteen trips.
-/
module

public import proofs.«01_k».proof.Proof.Rows

@[expose] public section

set_option maxRecDepth 16384

noncomputable section

namespace Cert.Rows

open Idealize.ShloMosaic Idealize.ShloMosaic.Pointwise

variable {H : ℕ}

/-- The trip's counter. -/
abbrev counter (k : ℕ) : BitVec 32 := Scf.iv 0#32 1#32 k

/-- Token `j` of trip `k`, as the kernel computes it. -/
abbrev token (k : ℕ) (j : BitVec 32) : BitVec 32 := Scalar.addi (Scalar.muli (counter k) 8#32) j

theorem token_eq : ∀ (k : Fin 16) (j : Fin 8), token k.val (BitVec.ofNat 32 j.val) = BitVec.ofNat 32 (8 * k.val + j.val) := by
  decide +kernel

theorem ofNat_eq_iff {a b : ℕ} (ha : a < 128) (hb : b < 128) : BitVec.ofNat 32 a = BitVec.ofNat 32 b ↔ a = b := by
  constructor
  · intro h
    have := congrArg BitVec.toNat h
    rw [BitVec.toNat_ofNat, BitVec.toNat_ofNat] at this
    omega
  · rintro rfl; rfl

/-- The rotation of trip `k`: `(128 - 8k) mod 128`, by the signed remainder the kernel takes. -/
abbrev shift (k : ℕ) : BitVec 32 :=
  let v179 : BitVec 32 := Scalar.muli (counter k) 8#32
  let v180 : BitVec 32 := Scalar.subi 128#32 v179
  let v181 : BitVec 1 := Scalar.cmpi .eq 128#32 0#32
  let v182 : BitVec 32 := Scalar.select v181 1#32 128#32
  let v183 : BitVec 32 := Scalar.remsi v180 v182
  let v184 : BitVec 1 := Scalar.cmpi .ne v183 0#32
  let v185 : BitVec 1 := Scalar.cmpi .slt v183 0#32
  let v186 : BitVec 1 := Scalar.cmpi .slt v182 0#32
  let v187 : BitVec 1 := Scalar.xori v185 v186
  let v188 : BitVec 1 := Scalar.andi v187 v184
  let v189 : BitVec 32 := Scalar.addi v183 v182
  Scalar.select v188 v189 v183

theorem shift_eq : ∀ k : Fin 16, (shift k.val).toNat = (128 - 8 * k.val) % 128 := by decide +kernel

/-- The first loop's trip: eight tokens' sums of squares. -/
def ssTrip (o : Ok H) (lane : IVec (W H) 32) (k : ℕ) (x1 x2 : Fin 8 → FVec Ideal (W4 H) .fp8e4m3)
    (acc : FVec Ideal (W H) .f32) : FVec Ideal (W H) .f32 :=
  ssStep o lane (token k 7#32) (x1 7) (x2 7) <| ssStep o lane (token k 6#32) (x1 6) (x2 6) <|
  ssStep o lane (token k 5#32) (x1 5) (x2 5) <| ssStep o lane (token k 4#32) (x1 4) (x2 4) <|
  ssStep o lane (token k 3#32) (x1 3) (x2 3) <| ssStep o lane (token k 2#32) (x1 2) (x2 2) <|
  ssStep o lane (token k 1#32) (x1 1) (x2 1) <| ssStep o lane (token k 0#32) (x1 0) (x2 0) acc

/-- The second loop's trip: eight tokens added to the gradient of the gain. -/
def accTrip (o : Ok H) (w : FVec Ideal (W H) .f32) (v : Fin 8 → FVec Ideal (W H) .f32) (acc : FVec Ideal (W H) .f32) :
    FVec Ideal (W H) .f32 :=
  accStep o (accStep o (accStep o (accStep o (accStep o (accStep o (accStep o (accStep o acc
    (v 0) w 0) (v 1) w 1) (v 2) w 2) (v 3) w 3) (v 4) w 4) (v 5) w 5) (v 6) w 6) (v 7) w 7

/-- What the second loop reads of one token: its rows of the tables, the incoming gradient, the codes. -/
structure Tok (H : ℕ) where
  c : FVec Ideal R .f32
  s : FVec Ideal R .f32
  y1 : FVec Ideal (W4 H) .fp8e5m2
  y2 : FVec Ideal (W4 H) .fp8e5m2
  x1 : FVec Ideal (W4 H) .fp8e4m3
  x2 : FVec Ideal (W4 H) .fp8e4m3

/-- The gradient turned back, half by half, and its products with the codes. -/
def Tok.d1 (o : Ok H) (T : Tok H) : FVec Ideal (W H) .f32 := Rows.d1 o T.c T.s (wide' o T.y1) (wide' o T.y2)
def Tok.d2 (o : Ok H) (T : Tok H) : FVec Ideal (W H) .f32 := Rows.d2 o T.c T.s (wide' o T.y1) (wide' o T.y2)
def Tok.v1 (o : Ok H) (T : Tok H) : FVec Ideal (W H) .f32 := mulf (T.d1 o) (wide o T.x1)
def Tok.v2 (o : Ok H) (T : Tok H) : FVec Ideal (W H) .f32 := mulf (T.d2 o) (wide o T.x2)

/-- The two halves of a token's row, as stored. -/
def Tok.piece1 (o : Ok H) (T : Tok H) (out alpha : FVec Ideal (W H) .f32) (g1 g2 : FVec Ideal R .f32) (j : Fin 8) :
    FVec Ideal (W4 H) .bf16 :=
  dxPiece o out (T.d1 o) (wide o T.x1) g1 (back o alpha (T.v1 o) (T.v2 o) g1 g2 j) j
def Tok.piece2 (o : Ok H) (T : Tok H) (out alpha : FVec Ideal (W H) .f32) (g1 g2 : FVec Ideal R .f32) (j : Fin 8) :
    FVec Ideal (W4 H) .bf16 :=
  dxPiece o out (T.d2 o) (wide o T.x2) g2 (back o alpha (T.v1 o) (T.v2 o) g1 g2 j) j

section Read

variable (hH : H = 16 ∨ H = 8) (o : Ok H)
include hH

theorem ssTrip_apply (lane : IVec (W H) 32) (hl : ∀ h n, lane (ix2 h n) = BitVec.ofNat 32 n.val) (k : Fin 16)
    (x1 x2 : Fin 8 → FVec Ideal (W4 H) .fp8e4m3) (acc : FVec Ideal (W H) .f32) (h : Fin H) (n : Fin 128)
    (S : Fin 128 → EReal)
    (hS : ∀ (j : Fin 8) (t : Fin 128), t.val = 8 * k.val + j.val →
      ∑ l : Fin 128, (x1 j (ix4 0 0 h l) * x1 j (ix4 0 0 h l) + x2 j (ix4 0 0 h l) * x2 j (ix4 0 0 h l)) = S t) :
    ssTrip o lane k.val x1 x2 acc (ix2 h n) = if n.val / 8 = k.val then S n else acc (ix2 h n) := by
  have hk := k.isLt
  have step : ∀ (j : Fin 8) (a : FVec Ideal (W H) .f32),
      ssStep o lane (token k.val (BitVec.ofNat 32 j.val)) (x1 j) (x2 j) a (ix2 h n)
        = if n.val = 8 * k.val + j.val then S n else a (ix2 h n) := fun j a => by
    rw [ssStep_apply hH, token_eq, hl]
    by_cases hb : n.val = 8 * k.val + j.val
    · rw [if_pos hb, if_pos ((ofNat_eq_iff n.isLt (by omega)).2 hb), hS j n hb]
    · rw [if_neg hb, if_neg (fun h => hb ((ofNat_eq_iff n.isLt (by omega)).1 h))]
  unfold ssTrip
  refine (step 7 _).trans ?_
  rw [show ∀ a, ssStep o lane (token k.val 6#32) (x1 6) (x2 6) a (ix2 h n) = _ from step 6,
    show ∀ a, ssStep o lane (token k.val 5#32) (x1 5) (x2 5) a (ix2 h n) = _ from step 5,
    show ∀ a, ssStep o lane (token k.val 4#32) (x1 4) (x2 4) a (ix2 h n) = _ from step 4,
    show ∀ a, ssStep o lane (token k.val 3#32) (x1 3) (x2 3) a (ix2 h n) = _ from step 3,
    show ∀ a, ssStep o lane (token k.val 2#32) (x1 2) (x2 2) a (ix2 h n) = _ from step 2,
    show ∀ a, ssStep o lane (token k.val 1#32) (x1 1) (x2 1) a (ix2 h n) = _ from step 1,
    show ∀ a, ssStep o lane (token k.val 0#32) (x1 0) (x2 0) a (ix2 h n) = _ from step 0]
  by_cases hb : n.val / 8 = k.val
  · rw [if_pos hb]
    have : n.val = 8 * k.val + 7 ∨ n.val = 8 * k.val + 6 ∨ n.val = 8 * k.val + 5 ∨ n.val = 8 * k.val + 4
        ∨ n.val = 8 * k.val + 3 ∨ n.val = 8 * k.val + 2 ∨ n.val = 8 * k.val + 1 ∨ n.val = 8 * k.val + 0 := by omega
    rcases this with h | h | h | h | h | h | h | h <;> simp [h]
  · rw [if_neg hb]
    have e : ∀ j : Fin 8, ¬ n.val = 8 * k.val + j.val := fun j => by omega
    rw [if_neg (e 7), if_neg (e 6), if_neg (e 5), if_neg (e 4), if_neg (e 3), if_neg (e 2), if_neg (e 1), if_neg (e 0)]

theorem accTrip_apply (w : FVec Ideal (W H) .f32) (v : Fin 8 → FVec Ideal (W H) .f32) (acc : FVec Ideal (W H) .f32)
    (h : Fin H) (n : Fin 128) :
    accTrip o w v acc (ix2 h n)
      = acc (ix2 h n) + ∑ j : Fin 8, v j (ix2 h n) * w (ix2 h ⟨j.val, by omega⟩) := by
  unfold accTrip
  simp only [accStep_apply hH]
  rw [Fin.sum_univ_eight]
  simp only [add_assoc]

/-- The rotated factors of trip `k`: lane `j` holds token `8k + j`. -/
theorem rotated_trip (k : Fin 16) (v : FVec Ideal (W3 H) .f32) (h : Fin H) (j : Fin 8) (t : Fin 128)
    (ht : t.val = 8 * k.val + j.val) :
    rotated o (shift k.val) v (ix2 h ⟨j.val, by omega⟩) = v (ix3 0 h t) := by
  refine rotated_apply hH o _ v h _ t ?_
  have hk := k.isLt
  rw [shift_eq k, ht]
  show _ = (j.val + 128 - (128 - 8 * k.val) % 128 % 128) % 128
  omega

end Read

/-- Sixteen trips of eight tokens: the lanes the first loop fills. -/
theorem lanes (S : Fin 128 → EReal) (n : Fin 128) (st : ℕ → EReal)
    (hs : ∀ k : Fin 16, st (k.val + 1) = if n.val / 8 = k.val then S n else st k.val) : st 16 = S n := by
  have h : ∀ k, k ≤ 16 → st k = if n.val / 8 < k then S n else st 0 := fun k => by
    induction k with
    | zero => intro _; simp
    | succ k ih =>
      intro hk
      rw [hs ⟨k, by omega⟩]
      dsimp only
      by_cases h1 : n.val / 8 = k
      · rw [if_pos h1, if_pos (by omega)]
      · rw [if_neg h1, ih (by omega)]
        by_cases h2 : n.val / 8 < k
        · rw [if_pos h2, if_pos (by omega)]
        · rw [if_neg h2, if_neg (by omega)]
  rw [h 16 le_rfl, if_pos (by omega)]

/-- Sixteen trips of eight tokens: the sum the second loop gathers. -/
theorem gathers (T : Fin 128 → EReal) (st : ℕ → EReal)
    (hs : ∀ k : Fin 16, st (k.val + 1) = st k.val + ∑ j : Fin 8, T ⟨8 * k.val + j.val, by omega⟩) :
    st 16 = st 0 + ∑ t, T t := by
  have h : ∀ k (hk : k ≤ 16), st k = st 0 + ∑ i : Fin k, ∑ j : Fin 8, T ⟨8 * i.val + j.val, by omega⟩ := fun k => by
    induction k with
    | zero => intro _; simp
    | succ k ih =>
      intro hk
      rw [hs ⟨k, by omega⟩, ih (by omega), Fin.sum_univ_castSucc (n := k), add_assoc]
      rfl
  rw [h 16 le_rfl]
  congr 1
  rw [← Fintype.sum_prod_type' (f := fun (i : Fin 16) (j : Fin 8) => T ⟨8 * i.val + j.val, by omega⟩)]
  exact Fintype.sum_equiv (finProdFinEquiv (m := 16) (n := 8)) _ _ fun p => by
    congr 1
    exact Fin.ext (by simp [finProdFinEquiv]; omega)

end Cert.Rows

end
-- ==== Proof.LoopsQ.lean ====
/-
  The two loops over the rows of the query heads: one trip of each is the trip of Trip.lean, at the tokens it loads.
-/
module

public import proofs.«01_k».proof.Proof.Gen.KernelIdeal.Loops
public import proofs.«01_k».proof.Proof.Refs
public import proofs.«01_k».proof.Proof.Trip

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows

variable (𝒱 : Variants) (c : Dev nD) (bd : Option 𝒱.V) (i : grid0.Coords) (M : Refs)

section Q

variable (X2 : BufTy.Contents (Elt Ideal) M.arg2.view.ty) (X6 : BufTy.Contents (Elt Ideal) M.arg6.view.ty)
  (X18 : BufTy.Contents (Elt Ideal) M.arg18.view.ty) (X19 : BufTy.Contents (Elt Ideal) M.arg19.view.ty)
  (X20 : BufTy.Contents (Elt Ideal) M.arg20.view.ty)

/-- The codes of token `j` of trip `k`, half by half. -/
def q1 (k : Fin k0_t1_loop.trips) (j : Fin 8) : FVec Ideal (W4 16) .fp8e4m3 :=
  M.arg6.view.readAt (Elt Ideal) (Rect.unit (s := S1x128x16x256) (k0_off1 k (BitVec.ofNat 32 j.val)) S1x1x16x128.size (k0_off1_inb k j)).toLoadRect X6
def q2 (k : Fin k0_t1_loop.trips) (j : Fin 8) : FVec Ideal (W4 16) .fp8e4m3 :=
  M.arg6.view.readAt (Elt Ideal) (Rect.unit (s := S1x128x16x256) (k0_off2 k (BitVec.ofNat 32 j.val)) S1x1x16x128.size (k0_off2_inb k j)).toLoadRect X6

/-- The state of the first loop. -/
abbrev st1 (lane : IVec S16x128 32) (init : FVec Ideal S16x128 .f32) (k : ℕ) : FVec Ideal S16x128 .f32 :=
  st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 lane X6 init k

theorem trip1 (lane : IVec S16x128 32) (k : Fin k0_t1_loop.trips) (acc : FVec Ideal S16x128 .f32) :
    tripR_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 lane X6 k acc = ssTrip ok16 lane k.val (q1 M X6 k) (q2 M X6 k) acc := by
  unfold tripR_k0_t1 trip_k0_t1
  rfl

/-- Token `j` of trip `k` of the second loop. -/
def tokQ (k : Fin k0_t2_loop.trips) (j : Fin 8) : Tok 16 where
  c := M.arg18.view.readAt (Elt Ideal) (Rect.unit (s := S128x128) (k0_off3 k (BitVec.ofNat 32 j.val)) S1x128.size (k0_off3_inb k j)).toLoadRect X18
  s := M.arg19.view.readAt (Elt Ideal) (Rect.unit (s := S128x128) (k0_off3 k (BitVec.ofNat 32 j.val)) S1x128.size (k0_off3_inb k j)).toLoadRect X19
  y1 := M.arg2.view.readAt (Elt Ideal) (Rect.unit (s := S1x128x16x256) (k0_off4 k (BitVec.ofNat 32 j.val)) S1x1x16x128.size (k0_off4_inb k j)).toLoadRect X2
  y2 := M.arg2.view.readAt (Elt Ideal) (Rect.unit (s := S1x128x16x256) (k0_off5 k (BitVec.ofNat 32 j.val)) S1x1x16x128.size (k0_off5_inb k j)).toLoadRect X2
  x1 := M.arg6.view.readAt (Elt Ideal) (Rect.unit (s := S1x128x16x256) (k0_off4 k (BitVec.ofNat 32 j.val)) S1x1x16x128.size (k0_off4_inb k j)).toLoadRect X6
  x2 := M.arg6.view.readAt (Elt Ideal) (Rect.unit (s := S1x128x16x256) (k0_off5 k (BitVec.ofNat 32 j.val)) S1x1x16x128.size (k0_off5_inb k j)).toLoadRect X6

/-- A row of factors, as kept in the scratch. -/
def rowQ (r : ℕ) (hr : r < 3) : FVec Ideal (W3 16) .f32 :=
  M.arg20.view.readAt (Elt Ideal) (Rect.unit (s := S3x16x128) ![r, 0, 0] S1x16x128.size (by
    intro a
    match a with
    | ⟨0, _⟩ => show r + 1 ≤ 3; omega
    | ⟨1, _⟩ => show 0 + 16 ≤ 16; omega
    | ⟨2, _⟩ => show 0 + 128 ≤ 128; omega)).toLoadRect X20

set_option maxHeartbeats 2000000 in
theorem trip2 (g1 : FVec Ideal S1x128 .f32) (g2 : FVec Ideal S1x128 .f32) (k : Fin k0_t2_loop.trips)
    (acc : FVec Ideal S16x128 .f32 × FVec Ideal S16x128 .f32) :
    tripR_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 k acc
      = (accTrip ok16 (rotated ok16 (shift k.val) (rowQ M X20 1 (by omega))) (fun j => (tokQ M X2 X6 X18 X19 k j).v1 ok16) acc.1,
         accTrip ok16 (rotated ok16 (shift k.val) (rowQ M X20 1 (by omega))) (fun j => (tokQ M X2 X6 X18 X19 k j).v2 ok16) acc.2) := by
  unfold tripR_k0_t2 trip_k0_t2
  rfl

/-- The two pieces of token `j` of trip `k`. -/
def pieceQ1 (g1 g2 : FVec Ideal R .f32) (k : Fin k0_t2_loop.trips) (j : Fin 8) : View.Piece (Elt Ideal) S1x128x16x256 .bf16 :=
  ⟨Rect.unit (s := S1x128x16x256) (k0_off4 k (BitVec.ofNat 32 j.val)) S1x1x16x128.size (k0_off4_inb k j),
   (tokQ M X2 X6 X18 X19 k j).piece1 ok16 (rotated ok16 (shift k.val) (rowQ M X20 0 (by omega)))
    (rotated ok16 (shift k.val) (rowQ M X20 2 (by omega))) g1 g2 j⟩
def pieceQ2 (g1 g2 : FVec Ideal R .f32) (k : Fin k0_t2_loop.trips) (j : Fin 8) : View.Piece (Elt Ideal) S1x128x16x256 .bf16 :=
  ⟨Rect.unit (s := S1x128x16x256) (k0_off5 k (BitVec.ofNat 32 j.val)) S1x1x16x128.size (k0_off5_inb k j),
   (tokQ M X2 X6 X18 X19 k j).piece2 ok16 (rotated ok16 (shift k.val) (rowQ M X20 0 (by omega)))
    (rotated ok16 (shift k.val) (rowQ M X20 2 (by omega))) g1 g2 j⟩

set_option maxHeartbeats 2000000 in
theorem pieces2 (g1 g2 : FVec Ideal S1x128 .f32) (k : Fin k0_t2_loop.trips)
    (acc : FVec Ideal S16x128 .f32 × FVec Ideal S16x128 .f32) :
    tripL_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 k acc
      = [pieceQ2 M X2 X6 X18 X19 X20 g1 (k0_pay277 g2) k 7, pieceQ1 M X2 X6 X18 X19 X20 g1 (k0_pay277 g2) k 7,
         pieceQ2 M X2 X6 X18 X19 X20 g1 (k0_pay277 g2) k 6, pieceQ1 M X2 X6 X18 X19 X20 g1 (k0_pay277 g2) k 6,
         pieceQ2 M X2 X6 X18 X19 X20 g1 (k0_pay277 g2) k 5, pieceQ1 M X2 X6 X18 X19 X20 g1 (k0_pay277 g2) k 5,
         pieceQ2 M X2 X6 X18 X19 X20 g1 (k0_pay277 g2) k 4, pieceQ1 M X2 X6 X18 X19 X20 g1 (k0_pay277 g2) k 4,
         pieceQ2 M X2 X6 X18 X19 X20 g1 (k0_pay277 g2) k 3, pieceQ1 M X2 X6 X18 X19 X20 g1 (k0_pay277 g2) k 3,
         pieceQ2 M X2 X6 X18 X19 X20 g1 (k0_pay277 g2) k 2, pieceQ1 M X2 X6 X18 X19 X20 g1 (k0_pay277 g2) k 2,
         pieceQ2 M X2 X6 X18 X19 X20 g1 (k0_pay277 g2) k 1, pieceQ1 M X2 X6 X18 X19 X20 g1 (k0_pay277 g2) k 1,
         pieceQ2 M X2 X6 X18 X19 X20 g1 (k0_pay277 g2) k 0, pieceQ1 M X2 X6 X18 X19 X20 g1 (k0_pay277 g2) k 0] := by
  unfold tripL_k0_t2 trip_k0_t2
  rfl

end Q

end Cert.KernelIdeal.Value

end
-- ==== Proof.Block.lean ====
/-
  What one block of 128 tokens comes to, as a function of an index, and what one trip of a loop adds to it.

  `x` and `y` are the block's codes (of the input and of the incoming gradient), `C` and `S` its tables, and `a0`,
  `a1`, `a2` the three rows of per-token factors the body keeps in its scratch.
-/
module

public import proofs.«01_k».proof.Proof.Trip
public import Idealize.ShloMosaic.Lib.Pipeline.Value
public import Idealize.ShloMosaic.Lib.Pipeline.ReadBack

@[expose] public section

set_option maxRecDepth 16384

noncomputable section

namespace Cert.Rows

open Idealize.ShloMosaic Idealize.ShloMosaic.Pointwise

abbrev X4 (H : ℕ) : Shape := ⟨4, ![1, 128, H, 256]⟩
abbrev T2 : Shape := ⟨2, ![128, 128]⟩

/-- Lane `l` of the first and of the second half of a row of 256. -/
abbrev lo (l : Fin 128) : Fin 256 := ⟨l.val, by omega⟩
abbrev hi (l : Fin 128) : Fin 256 := ⟨128 + l.val, by omega⟩

variable {H : ℕ}

/-- A token's sum of squares. -/
def blockSS (x : (X4 H).Idx → EReal) (h : Fin H) (t : Fin 128) : EReal :=
  ∑ l : Fin 128, (x (ix4 0 t h (lo l)) * x (ix4 0 t h (lo l)) + x (ix4 0 t h (hi l)) * x (ix4 0 t h (hi l)))

/-- The gradient turned back. -/
def blockD1 (y : (X4 H).Idx → EReal) (C S : T2.Idx → EReal) (h : Fin H) (t l : Fin 128) : EReal :=
  y (ix4 0 t h (lo l)) * C (ix2 t l) + y (ix4 0 t h (hi l)) * S (ix2 t l)
def blockD2 (y : (X4 H).Idx → EReal) (C S : T2.Idx → EReal) (h : Fin H) (t l : Fin 128) : EReal :=
  y (ix4 0 t h (hi l)) * C (ix2 t l) - y (ix4 0 t h (lo l)) * S (ix2 t l)

/-- A token's inner product. -/
def blockDot (x y : (X4 H).Idx → EReal) (C S : T2.Idx → EReal) (g1 g2 : R.Idx → EReal) (h : Fin H) (t : Fin 128) : EReal :=
  ∑ l : Fin 128, (blockD1 y C S h t l * x (ix4 0 t h (lo l)) * g1 (ix2 0 l) + blockD2 y C S h t l * x (ix4 0 t h (hi l)) * g2 (ix2 0 l))

/-- The gradient of the input. -/
def blockDx (x y : (X4 H).Idx → EReal) (C S : T2.Idx → EReal) (g1 g2 : R.Idx → EReal) (a0 a2 : (W3 H).Idx → EReal)
    (t : Fin 128) (h : Fin H) (n : Fin 256) : EReal :=
  if hn : n.val < 128 then
    a0 (ix3 0 h t) * (blockD1 y C S h t ⟨n.val, hn⟩ * g1 (ix2 0 ⟨n.val, hn⟩)
      - a2 (ix3 0 h t) * blockDot x y C S g1 g2 h t * x (ix4 0 t h n))
  else
    a0 (ix3 0 h t) * (blockD2 y C S h t ⟨n.val - 128, by omega⟩ * g2 (ix2 0 ⟨n.val - 128, by omega⟩)
      - a2 (ix3 0 h t) * blockDot x y C S g1 g2 h t * x (ix4 0 t h n))

/-- The same, as an array. -/
def blockDxArr (x y : (X4 H).Idx → EReal) (C S : T2.Idx → EReal) (g1 g2 : R.Idx → EReal) (a0 a2 : (W3 H).Idx → EReal) :
    (X4 H).Idx → EReal :=
  fun i => blockDx x y C S g1 g2 a0 a2 (i 1) (i 2) (i 3)

/-- What a token adds to the gradient of the gain. -/
def blockG1 (x y : (X4 H).Idx → EReal) (C S : T2.Idx → EReal) (a1 : (W3 H).Idx → EReal) (h : Fin H) (l t : Fin 128) : EReal :=
  blockD1 y C S h t l * x (ix4 0 t h (lo l)) * a1 (ix3 0 h t)
def blockG2 (x y : (X4 H).Idx → EReal) (C S : T2.Idx → EReal) (a1 : (W3 H).Idx → EReal) (h : Fin H) (l t : Fin 128) : EReal :=
  blockD2 y C S h t l * x (ix4 0 t h (hi l)) * a1 (ix3 0 h t)

/-- A token's vectors are row `t` of the arrays. -/
structure Tok.Reads (T : Tok H) (x y : (X4 H).Idx → EReal) (C S : T2.Idx → EReal) (t : Fin 128) : Prop where
  c : ∀ n, T.c (ix2 0 n) = C (ix2 t n)
  s : ∀ n, T.s (ix2 0 n) = S (ix2 t n)
  y1 : ∀ h l, T.y1 (ix4 0 0 h l) = y (ix4 0 t h (lo l))
  y2 : ∀ h l, T.y2 (ix4 0 0 h l) = y (ix4 0 t h (hi l))
  x1 : ∀ h l, T.x1 (ix4 0 0 h l) = x (ix4 0 t h (lo l))
  x2 : ∀ h l, T.x2 (ix4 0 0 h l) = x (ix4 0 t h (hi l))

section Read

variable (hH : H = 16 ∨ H = 8) (o : Ok H)
  {T : Tok H} {x y : (X4 H).Idx → EReal} {C S : T2.Idx → EReal} {t : Fin 128} (hT : T.Reads x y C S t)
include hH hT

theorem Tok.d1_apply (h : Fin H) (l : Fin 128) : T.d1 o (ix2 h l) = blockD1 y C S h t l := by
  unfold Tok.d1 blockD1
  rw [Rows.d1_apply hH, wide'_apply hH, wide'_apply hH, hT.y1, hT.y2, hT.c, hT.s]

theorem Tok.d2_apply (h : Fin H) (l : Fin 128) : T.d2 o (ix2 h l) = blockD2 y C S h t l := by
  unfold Tok.d2 blockD2
  rw [Rows.d2_apply hH, wide'_apply hH, wide'_apply hH, hT.y1, hT.y2, hT.c, hT.s]

theorem Tok.v1_apply (h : Fin H) (l : Fin 128) :
    T.v1 o (ix2 h l) = blockD1 y C S h t l * x (ix4 0 t h (lo l)) := by
  rw [show T.v1 o (ix2 h l) = T.d1 o (ix2 h l) * wide o T.x1 (ix2 h l) from rfl, Tok.d1_apply hH o hT, wide_apply hH, hT.x1]

theorem Tok.v2_apply (h : Fin H) (l : Fin 128) :
    T.v2 o (ix2 h l) = blockD2 y C S h t l * x (ix4 0 t h (hi l)) := by
  rw [show T.v2 o (ix2 h l) = T.d2 o (ix2 h l) * wide o T.x2 (ix2 h l) from rfl, Tok.d2_apply hH o hT, wide_apply hH, hT.x2]

variable (k : Fin 16) (j : Fin 8) (ht : t.val = 8 * k.val + j.val) (g1 g2 : FVec Ideal R .f32)
  (a0 a2 : FVec Ideal (W3 H) .f32)
include ht

theorem Tok.back_apply (h : Fin H) (n : Fin 1) :
    back o (rotated o (shift k.val) a2) (T.v1 o) (T.v2 o) g1 g2 j (ix2 h n)
      = a2 (ix3 0 h t) * blockDot x y C S g1 g2 h t := by
  rw [Rows.back_apply hH, rotated_trip hH o k _ h j t ht]
  simp only [Tok.v1_apply hH o hT, Tok.v2_apply hH o hT]
  rfl

theorem Tok.piece1_apply (a b : Fin 1) (h : Fin H) (l : Fin 128) :
    T.piece1 o (rotated o (shift k.val) a0) (rotated o (shift k.val) a2) g1 g2 j (ix4 a b h l)
      = blockDx x y C S g1 g2 a0 a2 t h (lo l) := by
  unfold Tok.piece1 blockDx
  rw [dxPiece_apply hH, rotated_trip hH o k _ h j t ht, Tok.d1_apply hH o hT, Tok.back_apply hH o hT k j ht, wide_apply hH, hT.x1,
    dif_pos l.isLt]

theorem Tok.piece2_apply (a b : Fin 1) (h : Fin H) (l : Fin 128) :
    T.piece2 o (rotated o (shift k.val) a0) (rotated o (shift k.val) a2) g1 g2 j (ix4 a b h l)
      = blockDx x y C S g1 g2 a0 a2 t h (hi l) := by
  unfold Tok.piece2 blockDx
  rw [dxPiece_apply hH, rotated_trip hH o k _ h j t ht, Tok.d2_apply hH o hT, Tok.back_apply hH o hT k j ht, wide_apply hH, hT.x2,
    dif_neg (by show ¬ 128 + l.val < 128; omega)]
  have e : ∀ p, (⟨(hi l).val - 128, p⟩ : Fin 128) = l := fun p => Fin.ext (by show 128 + l.val - 128 = l.val; omega)
  rw [e]

end Read

/-- A trip of the second loop adds its eight tokens' terms. -/
theorem accTrip_block (hH : H = 16 ∨ H = 8) (o : Ok H) {T : Fin 8 → Tok H} {x y : (X4 H).Idx → EReal} {C S : T2.Idx → EReal}
    (k : Fin 16) (hT : ∀ j : Fin 8, (T j).Reads x y C S ⟨8 * k.val + j.val, by omega⟩) (a1 : FVec Ideal (W3 H) .f32)
    (acc : FVec Ideal (W H) .f32) (h : Fin H) (l : Fin 128) :
    accTrip o (rotated o (shift k.val) a1) (fun j => (T j).v1 o) acc (ix2 h l)
        = acc (ix2 h l) + ∑ j : Fin 8, blockG1 x y C S a1 h l ⟨8 * k.val + j.val, by omega⟩ ∧
    accTrip o (rotated o (shift k.val) a1) (fun j => (T j).v2 o) acc (ix2 h l)
        = acc (ix2 h l) + ∑ j : Fin 8, blockG2 x y C S a1 h l ⟨8 * k.val + j.val, by omega⟩ := by
  constructor <;> rw [accTrip_apply hH] <;> congr 1 <;> refine Finset.sum_congr rfl fun j _ => ?_
  · rw [Tok.v1_apply hH o (hT j), rotated_trip hH o k _ h j ⟨8 * k.val + j.val, by omega⟩ rfl]; rfl
  · rw [Tok.v2_apply hH o (hT j), rotated_trip hH o k _ h j ⟨8 * k.val + j.val, by omega⟩ rfl]; rfl

section Loads

variable {sig : RefSig} {κ : Kind} {sp : Space}

/-- A token's half row, loaded. -/
theorem readAt_row {e : EltTy} (v : View sig κ sp (X4 H) e) (X : BufTy.Contents (Elt Ideal) v.ty) {off : Fin 4 → ℕ} (t : Fin 128) (d : ℕ)
    (ho : off = ![0, t.val, 0, d]) (inb : ∀ a, off a + (W4 H).size a ≤ (X4 H).size a) (h : Fin H) (l : Fin 128) (n : Fin 256)
    (hn : n.val = d + l.val) :
    v.readAt (Elt Ideal) (Rect.unit (s := X4 H) off (W4 H).size inb).toLoadRect X (ix4 0 0 h l)
      = v.read (Elt Ideal) X (ix4 0 t h n) := by
  subst ho
  show v.read (Elt Ideal) X _ = _
  congr 1
  funext a
  refine Fin.ext ?_
  match a with
  | ⟨0, _⟩ => rfl
  | ⟨1, _⟩ => show t.val + 1 * 0 = t.val; omega
  | ⟨2, _⟩ => show 0 + 1 * h.val = h.val; omega
  | ⟨3, _⟩ => show d + 1 * l.val = n.val; omega

/-- A row of a table, loaded. -/
theorem readAt_table (v : View sig κ sp T2 .f32) (X : BufTy.Contents (Elt Ideal) v.ty) {off : Fin 2 → ℕ} (t : Fin 128)
    (ho : off = ![t.val, 0]) (inb : ∀ a, off a + R.size a ≤ T2.size a) (l : Fin 128) :
    v.readAt (Elt Ideal) (Rect.unit (s := T2) off R.size inb).toLoadRect X (ix2 0 l)
      = v.read (Elt Ideal) X (ix2 t l) := by
  subst ho
  show v.read (Elt Ideal) X _ = _
  congr 1
  funext a
  refine Fin.ext ?_
  match a with
  | ⟨0, _⟩ => show t.val + 1 * 0 = t.val; omega
  | ⟨1, _⟩ => show 0 + 1 * l.val = l.val; omega

/-- Where a stored half row lies. -/
theorem emb_row {off : Fin 4 → ℕ} (t : Fin 128) (d : ℕ) (ho : off = ![0, t.val, 0, d])
    (inb : ∀ a, off a + (W4 H).size a ≤ (X4 H).size a) (a b : Fin 1) (h : Fin H) (l : Fin 128) (n : Fin 256) (hn : n.val = d + l.val) :
    (Rect.unit (s := X4 H) off (W4 H).size inb).emb (ix4 a b h l) = ix4 0 t h n := by
  subst ho
  funext c
  refine Fin.ext ?_
  match c with
  | ⟨0, _⟩ => show 0 + 1 * a.val = 0; omega
  | ⟨1, _⟩ => show t.val + 1 * b.val = t.val; omega
  | ⟨2, _⟩ => show 0 + 1 * h.val = h.val; omega
  | ⟨3, _⟩ => show d + 1 * l.val = n.val; omega

end Loads

end Cert.Rows

end
-- ==== Proof.StateQ.lean ====
/-
  What the two loops over the rows of the query heads leave after their sixteen trips.
-/
module

public import proofs.«01_k».proof.Proof.LoopsQ
public import proofs.«01_k».proof.Proof.Block

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows

variable (𝒱 : Variants) (c : Dev nD) (bd : Option 𝒱.V) (i : grid0.Coords) (M : Refs)

section Q

variable (X2 : BufTy.Contents (Elt Ideal) M.arg2.view.ty) (X6 : BufTy.Contents (Elt Ideal) M.arg6.view.ty)
  (X18 : BufTy.Contents (Elt Ideal) M.arg18.view.ty) (X19 : BufTy.Contents (Elt Ideal) M.arg19.view.ty)
  (X20 : BufTy.Contents (Elt Ideal) M.arg20.view.ty)

theorem trips1 : k0_t1_loop.trips = 16 := by decide +kernel
theorem trips2 : k0_t2_loop.trips = 16 := by decide +kernel

/-- The first loop leaves each token's sum of squares on its lane. -/
theorem final1 (lane : IVec S16x128 32) (hl : ∀ (h : Fin 16) (n : Fin 128), lane (ix2 h n) = BitVec.ofNat 32 n.val)
    (init : FVec Ideal S16x128 .f32) (h : Fin 16) (n : Fin 128) :
    st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 lane X6 init k0_t1_loop.trips (ix2 h n)
      = blockSS (M.arg6.view.read (Elt Ideal) X6) h n := by
  rw [trips1]
  refine lanes (fun n => blockSS (M.arg6.view.read (Elt Ideal) X6) h n) n (fun k => st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 lane X6 init k (ix2 h n)) fun k => ?_
  have hk : k.val < k0_t1_loop.trips := by rw [trips1]; exact k.isLt
  refine (congrFun (st_k0_t1_succ (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 lane X6 init ⟨k.val, hk⟩) (ix2 h n)).trans ?_
  rw [trip1]
  refine ssTrip_apply (.inl rfl) ok16 lane hl k _ _ _ h n _ fun j t ht => ?_
  refine Finset.sum_congr rfl fun l _ => ?_
  rw [show q1 M X6 ⟨k.val, hk⟩ j (ix4 0 0 h l) = M.arg6.view.read (Elt Ideal) X6 (ix4 0 t h (lo l)) from
      readAt_row _ _ t 0 (by rw [k0_off1_eq, ht]) _ h l _ (Nat.zero_add _).symm,
    show q2 M X6 ⟨k.val, hk⟩ j (ix4 0 0 h l) = M.arg6.view.read (Elt Ideal) X6 (ix4 0 t h (hi l)) from
      readAt_row _ _ t 128 (by rw [k0_off2_eq, ht]) _ h l _ rfl]

/-- The tokens of a trip are the rows of the arrays. -/
theorem tokQ_reads (k : Fin k0_t2_loop.trips) (j : Fin 8) (t : Fin 128) (ht : t.val = 8 * k.val + j.val) :
    (tokQ M X2 X6 X18 X19 k j).Reads (M.arg6.view.read (Elt Ideal) X6) (M.arg2.view.read (Elt Ideal) X2)
      (M.arg18.view.read (Elt Ideal) X18) (M.arg19.view.read (Elt Ideal) X19) t where
  c n := readAt_table _ _ t (by rw [k0_off3_eq, ht]) _ n
  s n := readAt_table _ _ t (by rw [k0_off3_eq, ht]) _ n
  y1 h l := readAt_row _ _ t 0 (by rw [k0_off4_eq, ht]) _ h l _ (Nat.zero_add _).symm
  y2 h l := readAt_row _ _ t 128 (by rw [k0_off5_eq, ht]) _ h l _ rfl
  x1 h l := readAt_row _ _ t 0 (by rw [k0_off4_eq, ht]) _ h l _ (Nat.zero_add _).symm
  x2 h l := readAt_row _ _ t 128 (by rw [k0_off5_eq, ht]) _ h l _ rfl

/-- The second loop leaves the sums over the block's tokens. -/
theorem final2 (g1 g2 : FVec Ideal S1x128 .f32) (init : FVec Ideal S16x128 .f32 × FVec Ideal S16x128 .f32) (h : Fin 16) (l : Fin 128) :
    (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init k0_t2_loop.trips).1.1 (ix2 h l)
      = init.1 (ix2 h l) + ∑ t, blockG1 (M.arg6.view.read (Elt Ideal) X6) (M.arg2.view.read (Elt Ideal) X2)
          (M.arg18.view.read (Elt Ideal) X18) (M.arg19.view.read (Elt Ideal) X19) (rowQ M X20 1 (by omega)) h l t ∧
    (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init k0_t2_loop.trips).1.2 (ix2 h l)
      = init.2 (ix2 h l) + ∑ t, blockG2 (M.arg6.view.read (Elt Ideal) X6) (M.arg2.view.read (Elt Ideal) X2)
          (M.arg18.view.read (Elt Ideal) X18) (M.arg19.view.read (Elt Ideal) X19) (rowQ M X20 1 (by omega)) h l t := by
  rw [trips2]
  have step : ∀ k : Fin 16, _ := fun k =>
    accTrip_block (.inl rfl) ok16 (T := tokQ M X2 X6 X18 X19 ⟨k.val, by rw [trips2]; exact k.isLt⟩) k
      (fun j => tokQ_reads M X2 X6 X18 X19 _ j _ rfl) (rowQ M X20 1 (by omega))
  have succ : ∀ k : Fin 16, _ := fun k => congrArg Prod.fst
    (st_k0_t2_succ (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init ⟨k.val, by rw [trips2]; exact k.isLt⟩)
  constructor
  · refine gathers _ (fun k => (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init k).1.1 (ix2 h l)) fun k => ?_
    refine (congrFun (congrArg Prod.fst (succ k)) (ix2 h l)).trans ?_
    dsimp only
    rw [trip2]
    exact (step k _ h l).1
  · refine gathers _ (fun k => (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init k).1.2 (ix2 h l)) fun k => ?_
    refine (congrFun (congrArg Prod.snd (succ k)) (ix2 h l)).trans ?_
    dsimp only
    rw [trip2]
    exact (step k _ h l).2

/-- Every piece the second loop stores is a part of the gradient of the input. -/
theorem stored2 (g1 g2 : FVec Ideal S1x128 .f32) (init : FVec Ideal S16x128 .f32 × FVec Ideal S16x128 .f32) (k : ℕ) (hk : k ≤ k0_t2_loop.trips) :
    View.PiecesOf (blockDxArr (M.arg6.view.read (Elt Ideal) X6) (M.arg2.view.read (Elt Ideal) X2)
        (M.arg18.view.read (Elt Ideal) X18) (M.arg19.view.read (Elt Ideal) X19) g1 (k0_pay277 (F := Ideal) g2) (rowQ M X20 0 (by omega)) (rowQ M X20 2 (by omega)))
      (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init k).2 := by
  induction k with
  | zero => rw [st_k0_t2.eq_1]; exact trivial
  | succ k ih =>
    rw [st_k0_t2_succ (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 init ⟨k, hk⟩]
    dsimp only
    rw [pieces2]
    have h16 : k < 16 := by rw [trips2] at hk; omega
    have p1 : ∀ j : Fin 8, ∀ x : (pieceQ1 M X2 X6 X18 X19 X20 g1 (k0_pay277 (F := Ideal) g2) ⟨k, hk⟩ j).1.shape.Idx,
        (pieceQ1 M X2 X6 X18 X19 X20 g1 (k0_pay277 (F := Ideal) g2) ⟨k, hk⟩ j).2 x
          = blockDxArr (M.arg6.view.read (Elt Ideal) X6) (M.arg2.view.read (Elt Ideal) X2)
        (M.arg18.view.read (Elt Ideal) X18) (M.arg19.view.read (Elt Ideal) X19) g1 (k0_pay277 (F := Ideal) g2) (rowQ M X20 0 (by omega)) (rowQ M X20 2 (by omega))
          ((pieceQ1 M X2 X6 X18 X19 X20 g1 (k0_pay277 (F := Ideal) g2) ⟨k, hk⟩ j).1.emb x) := fun j x => by
      change (W4 16).Idx at x
      obtain ⟨a, b, h, l, rfl⟩ : ∃ (a b : Fin 1) (h : Fin 16) (l : Fin 128), x = ix4 a b h l := ⟨_, _, _, _, eq_ix4 x⟩
      refine (Tok.piece1_apply (.inl rfl) ok16 (tokQ_reads M X2 X6 X18 X19 ⟨k, hk⟩ j ⟨8 * k + j.val, by omega⟩ rfl) ⟨k, h16⟩ j rfl
        g1 (k0_pay277 (F := Ideal) g2) _ _ a b h l).trans ?_
      rw [show (pieceQ1 M X2 X6 X18 X19 X20 g1 (k0_pay277 (F := Ideal) g2) ⟨k, hk⟩ j).1.emb (ix4 a b h l) = ix4 0 ⟨8 * k + j.val, by omega⟩ h (lo l) from
        emb_row ⟨8 * k + j.val, by omega⟩ 0 (k0_off4_eq ⟨k, hk⟩ j) (k0_off4_inb ⟨k, hk⟩ j) a b h l _ (Nat.zero_add _).symm]
      rfl
    have p2 : ∀ j : Fin 8, ∀ x : (pieceQ2 M X2 X6 X18 X19 X20 g1 (k0_pay277 (F := Ideal) g2) ⟨k, hk⟩ j).1.shape.Idx,
        (pieceQ2 M X2 X6 X18 X19 X20 g1 (k0_pay277 (F := Ideal) g2) ⟨k, hk⟩ j).2 x
          = blockDxArr (M.arg6.view.read (Elt Ideal) X6) (M.arg2.view.read (Elt Ideal) X2)
        (M.arg18.view.read (Elt Ideal) X18) (M.arg19.view.read (Elt Ideal) X19) g1 (k0_pay277 (F := Ideal) g2) (rowQ M X20 0 (by omega)) (rowQ M X20 2 (by omega))
          ((pieceQ2 M X2 X6 X18 X19 X20 g1 (k0_pay277 (F := Ideal) g2) ⟨k, hk⟩ j).1.emb x) := fun j x => by
      change (W4 16).Idx at x
      obtain ⟨a, b, h, l, rfl⟩ : ∃ (a b : Fin 1) (h : Fin 16) (l : Fin 128), x = ix4 a b h l := ⟨_, _, _, _, eq_ix4 x⟩
      refine (Tok.piece2_apply (.inl rfl) ok16 (tokQ_reads M X2 X6 X18 X19 ⟨k, hk⟩ j ⟨8 * k + j.val, by omega⟩ rfl) ⟨k, h16⟩ j rfl
        g1 (k0_pay277 (F := Ideal) g2) _ _ a b h l).trans ?_
      rw [show (pieceQ2 M X2 X6 X18 X19 X20 g1 (k0_pay277 (F := Ideal) g2) ⟨k, hk⟩ j).1.emb (ix4 a b h l) = ix4 0 ⟨8 * k + j.val, by omega⟩ h (hi l) from
        emb_row ⟨8 * k + j.val, by omega⟩ 128 (k0_off5_eq ⟨k, hk⟩ j) (k0_off5_inb ⟨k, hk⟩ j) a b h l _ rfl]
      rfl
    exact ⟨p2 7, p1 7, p2 6, p1 6, p2 5, p1 5, p2 4, p1 4, p2 3, p1 3, p2 2, p1 2, p2 1, p1 1, p2 0, p1 0, ih (by omega)⟩

end Q

end Cert.KernelIdeal.Value

end
-- ==== Proof.LoopsK.lean ====
/-
  The two loops over the rows of the key heads: one trip of each is the trip of Trip.lean, at the tokens it loads.
-/
module

public import proofs.«01_k».proof.Proof.Gen.KernelIdeal.Loops
public import proofs.«01_k».proof.Proof.Refs
public import proofs.«01_k».proof.Proof.Trip

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows

variable (𝒱 : Variants) (c : Dev nD) (bd : Option 𝒱.V) (i : grid0.Coords) (M : Refs)

section K

variable (X4 : BufTy.Contents (Elt Ideal) M.arg4.view.ty) (X8 : BufTy.Contents (Elt Ideal) M.arg8.view.ty)
  (X18 : BufTy.Contents (Elt Ideal) M.arg18.view.ty) (X19 : BufTy.Contents (Elt Ideal) M.arg19.view.ty)
  (X20 : BufTy.Contents (Elt Ideal) M.arg20.view.ty)

/-- The codes of token `j` of trip `k`, half by half. -/
def k1 (k : Fin k0_t3_loop.trips) (j : Fin 8) : FVec Ideal (W4 8) .fp8e4m3 :=
  M.arg8.view.readAt (Elt Ideal) (Rect.unit (s := S1x128x8x256) (k0_off6 k (BitVec.ofNat 32 j.val)) S1x1x8x128.size (k0_off6_inb k j)).toLoadRect X8
def k2 (k : Fin k0_t3_loop.trips) (j : Fin 8) : FVec Ideal (W4 8) .fp8e4m3 :=
  M.arg8.view.readAt (Elt Ideal) (Rect.unit (s := S1x128x8x256) (k0_off7 k (BitVec.ofNat 32 j.val)) S1x1x8x128.size (k0_off7_inb k j)).toLoadRect X8

/-- The state of the first loop. -/
abbrev st3 (v112 : FVec Ideal S1x128 .f32) (lane : IVec S8x128 32) (init : FVec Ideal S8x128 .f32) (k : ℕ) : FVec Ideal S8x128 .f32 :=
  st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 lane X8 init k

/-- The lane numbers. -/
abbrev laneK : IVec S8x128 32 := iota .tc S8x128 32 [1] iota_S8x128_d1_w32

theorem trip3 (v112 : FVec Ideal S1x128 .f32) (k : Fin k0_t3_loop.trips) (acc : FVec Ideal S8x128 .f32) :
    tripR_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 k acc = ssTrip ok8 laneK k.val (k1 M X8 k) (k2 M X8 k) acc := by
  unfold tripR_k0_t3 trip_k0_t3
  rfl

/-- Token `j` of trip `k` of the second loop. -/
def tokK (k : Fin k0_t4_loop.trips) (j : Fin 8) : Tok 8 where
  c := M.arg18.view.readAt (Elt Ideal) (Rect.unit (s := S128x128) (k0_off8 k (BitVec.ofNat 32 j.val)) S1x128.size (k0_off8_inb k j)).toLoadRect X18
  s := M.arg19.view.readAt (Elt Ideal) (Rect.unit (s := S128x128) (k0_off8 k (BitVec.ofNat 32 j.val)) S1x128.size (k0_off8_inb k j)).toLoadRect X19
  y1 := M.arg4.view.readAt (Elt Ideal) (Rect.unit (s := S1x128x8x256) (k0_off9 k (BitVec.ofNat 32 j.val)) S1x1x8x128.size (k0_off9_inb k j)).toLoadRect X4
  y2 := M.arg4.view.readAt (Elt Ideal) (Rect.unit (s := S1x128x8x256) (k0_off10 k (BitVec.ofNat 32 j.val)) S1x1x8x128.size (k0_off10_inb k j)).toLoadRect X4
  x1 := M.arg8.view.readAt (Elt Ideal) (Rect.unit (s := S1x128x8x256) (k0_off9 k (BitVec.ofNat 32 j.val)) S1x1x8x128.size (k0_off9_inb k j)).toLoadRect X8
  x2 := M.arg8.view.readAt (Elt Ideal) (Rect.unit (s := S1x128x8x256) (k0_off10 k (BitVec.ofNat 32 j.val)) S1x1x8x128.size (k0_off10_inb k j)).toLoadRect X8

/-- A row of factors, as kept in the scratch. -/
def rowK (r : ℕ) (hr : r < 3) : FVec Ideal (W3 8) .f32 :=
  M.arg20.view.readAt (Elt Ideal) (Rect.unit (s := S3x16x128) ![r, 0, 0] S1x8x128.size (by
    intro a
    match a with
    | ⟨0, _⟩ => show r + 1 ≤ 3; omega
    | ⟨1, _⟩ => show 0 + 8 ≤ 16; omega
    | ⟨2, _⟩ => show 0 + 128 ≤ 128; omega)).toLoadRect X20

set_option maxHeartbeats 2000000 in
theorem trip4 (v135 v137 v141 : FVec Ideal S8x128 .f32) (cst : Ideal .f32) (g1 g2 : FVec Ideal S1x128 .f32) (k : Fin k0_t4_loop.trips)
    (acc : FVec Ideal S8x128 .f32 × FVec Ideal S8x128 .f32) :
    tripR_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 k acc
      = (accTrip ok8 (rotated ok8 (shift k.val) (rowK M X20 1 (by omega))) (fun j => (tokK M X4 X8 X18 X19 k j).v1 ok8) acc.1,
         accTrip ok8 (rotated ok8 (shift k.val) (rowK M X20 1 (by omega))) (fun j => (tokK M X4 X8 X18 X19 k j).v2 ok8) acc.2) := by
  unfold tripR_k0_t4 trip_k0_t4
  rfl

/-- The two pieces of token `j` of trip `k`. -/
def pieceK1 (g1 g2 : FVec Ideal R .f32) (k : Fin k0_t4_loop.trips) (j : Fin 8) : View.Piece (Elt Ideal) S1x128x8x256 .bf16 :=
  ⟨Rect.unit (s := S1x128x8x256) (k0_off9 k (BitVec.ofNat 32 j.val)) S1x1x8x128.size (k0_off9_inb k j),
   (tokK M X4 X8 X18 X19 k j).piece1 ok8 (rotated ok8 (shift k.val) (rowK M X20 0 (by omega)))
    (rotated ok8 (shift k.val) (rowK M X20 2 (by omega))) g1 g2 j⟩
def pieceK2 (g1 g2 : FVec Ideal R .f32) (k : Fin k0_t4_loop.trips) (j : Fin 8) : View.Piece (Elt Ideal) S1x128x8x256 .bf16 :=
  ⟨Rect.unit (s := S1x128x8x256) (k0_off10 k (BitVec.ofNat 32 j.val)) S1x1x8x128.size (k0_off10_inb k j),
   (tokK M X4 X8 X18 X19 k j).piece2 ok8 (rotated ok8 (shift k.val) (rowK M X20 0 (by omega)))
    (rotated ok8 (shift k.val) (rowK M X20 2 (by omega))) g1 g2 j⟩

set_option maxHeartbeats 2000000 in
theorem pieces4 (v135 v137 v141 : FVec Ideal S8x128 .f32) (cst : Ideal .f32) (g1 g2 : FVec Ideal S1x128 .f32) (k : Fin k0_t4_loop.trips)
    (acc : FVec Ideal S8x128 .f32 × FVec Ideal S8x128 .f32) :
    tripL_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 k acc
      = [pieceK2 M X4 X8 X18 X19 X20 (k0_pay298 g1) (k0_pay299 g2) k 7, pieceK1 M X4 X8 X18 X19 X20 (k0_pay298 g1) (k0_pay299 g2) k 7,
         pieceK2 M X4 X8 X18 X19 X20 (k0_pay298 g1) (k0_pay299 g2) k 6, pieceK1 M X4 X8 X18 X19 X20 (k0_pay298 g1) (k0_pay299 g2) k 6,
         pieceK2 M X4 X8 X18 X19 X20 (k0_pay298 g1) (k0_pay299 g2) k 5, pieceK1 M X4 X8 X18 X19 X20 (k0_pay298 g1) (k0_pay299 g2) k 5,
         pieceK2 M X4 X8 X18 X19 X20 (k0_pay298 g1) (k0_pay299 g2) k 4, pieceK1 M X4 X8 X18 X19 X20 (k0_pay298 g1) (k0_pay299 g2) k 4,
         pieceK2 M X4 X8 X18 X19 X20 (k0_pay298 g1) (k0_pay299 g2) k 3, pieceK1 M X4 X8 X18 X19 X20 (k0_pay298 g1) (k0_pay299 g2) k 3,
         pieceK2 M X4 X8 X18 X19 X20 (k0_pay298 g1) (k0_pay299 g2) k 2, pieceK1 M X4 X8 X18 X19 X20 (k0_pay298 g1) (k0_pay299 g2) k 2,
         pieceK2 M X4 X8 X18 X19 X20 (k0_pay298 g1) (k0_pay299 g2) k 1, pieceK1 M X4 X8 X18 X19 X20 (k0_pay298 g1) (k0_pay299 g2) k 1,
         pieceK2 M X4 X8 X18 X19 X20 (k0_pay298 g1) (k0_pay299 g2) k 0, pieceK1 M X4 X8 X18 X19 X20 (k0_pay298 g1) (k0_pay299 g2) k 0] := by
  unfold tripL_k0_t4 trip_k0_t4
  rfl

end K

end Cert.KernelIdeal.Value

end
-- ==== Proof.StateK.lean ====
/-
  What the two loops over the rows of the key heads leave after their sixteen trips.
-/
module

public import proofs.«01_k».proof.Proof.LoopsK
public import proofs.«01_k».proof.Proof.Block

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows

variable (𝒱 : Variants) (c : Dev nD) (bd : Option 𝒱.V) (i : grid0.Coords) (M : Refs)

section K

variable (X4 : BufTy.Contents (Elt Ideal) M.arg4.view.ty) (X8 : BufTy.Contents (Elt Ideal) M.arg8.view.ty)
  (X18 : BufTy.Contents (Elt Ideal) M.arg18.view.ty) (X19 : BufTy.Contents (Elt Ideal) M.arg19.view.ty)
  (X20 : BufTy.Contents (Elt Ideal) M.arg20.view.ty)

theorem trips3 : k0_t3_loop.trips = 16 := by decide +kernel
theorem trips4 : k0_t4_loop.trips = 16 := by decide +kernel

/-- The first loop leaves each token's sum of squares on its lane. -/
theorem final3 (v112 : FVec Ideal S1x128 .f32) (hl : ∀ (h : Fin 8) (n : Fin 128), laneK (ix2 h n) = BitVec.ofNat 32 n.val)
    (init : FVec Ideal S8x128 .f32) (h : Fin 8) (n : Fin 128) :
    st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init k0_t3_loop.trips (ix2 h n)
      = blockSS (M.arg8.view.read (Elt Ideal) X8) h n := by
  rw [trips3]
  refine lanes (fun n => blockSS (M.arg8.view.read (Elt Ideal) X8) h n) n (fun k => st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init k (ix2 h n)) fun k => ?_
  have hk : k.val < k0_t3_loop.trips := by rw [trips3]; exact k.isLt
  refine (congrFun (st_k0_t3_succ (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init ⟨k.val, hk⟩) (ix2 h n)).trans ?_
  rw [trip3]
  refine ssTrip_apply (.inr rfl) ok8 laneK hl k _ _ _ h n _ fun j t ht => ?_
  refine Finset.sum_congr rfl fun l _ => ?_
  rw [show k1 M X8 ⟨k.val, hk⟩ j (ix4 0 0 h l) = M.arg8.view.read (Elt Ideal) X8 (ix4 0 t h (lo l)) from
      readAt_row _ _ t 0 (by rw [k0_off6_eq, ht]) _ h l _ (Nat.zero_add _).symm,
    show k2 M X8 ⟨k.val, hk⟩ j (ix4 0 0 h l) = M.arg8.view.read (Elt Ideal) X8 (ix4 0 t h (hi l)) from
      readAt_row _ _ t 128 (by rw [k0_off7_eq, ht]) _ h l _ rfl]

/-- The tokens of a trip are the rows of the arrays. -/
theorem tokK_reads (k : Fin k0_t4_loop.trips) (j : Fin 8) (t : Fin 128) (ht : t.val = 8 * k.val + j.val) :
    (tokK M X4 X8 X18 X19 k j).Reads (M.arg8.view.read (Elt Ideal) X8) (M.arg4.view.read (Elt Ideal) X4)
      (M.arg18.view.read (Elt Ideal) X18) (M.arg19.view.read (Elt Ideal) X19) t where
  c n := readAt_table _ _ t (by rw [k0_off8_eq, ht]) _ n
  s n := readAt_table _ _ t (by rw [k0_off8_eq, ht]) _ n
  y1 h l := readAt_row _ _ t 0 (by rw [k0_off9_eq, ht]) _ h l _ (Nat.zero_add _).symm
  y2 h l := readAt_row _ _ t 128 (by rw [k0_off10_eq, ht]) _ h l _ rfl
  x1 h l := readAt_row _ _ t 0 (by rw [k0_off9_eq, ht]) _ h l _ (Nat.zero_add _).symm
  x2 h l := readAt_row _ _ t 128 (by rw [k0_off10_eq, ht]) _ h l _ rfl

/-- The second loop leaves the sums over the block's tokens. -/
theorem final4 (v135 v137 v141 : FVec Ideal S8x128 .f32) (cst : Ideal .f32) (g1 g2 : FVec Ideal S1x128 .f32) (init : FVec Ideal S8x128 .f32 × FVec Ideal S8x128 .f32) (h : Fin 8) (l : Fin 128) :
    (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init k0_t4_loop.trips).1.1 (ix2 h l)
      = init.1 (ix2 h l) + ∑ t, blockG1 (M.arg8.view.read (Elt Ideal) X8) (M.arg4.view.read (Elt Ideal) X4)
          (M.arg18.view.read (Elt Ideal) X18) (M.arg19.view.read (Elt Ideal) X19) (rowK M X20 1 (by omega)) h l t ∧
    (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init k0_t4_loop.trips).1.2 (ix2 h l)
      = init.2 (ix2 h l) + ∑ t, blockG2 (M.arg8.view.read (Elt Ideal) X8) (M.arg4.view.read (Elt Ideal) X4)
          (M.arg18.view.read (Elt Ideal) X18) (M.arg19.view.read (Elt Ideal) X19) (rowK M X20 1 (by omega)) h l t := by
  rw [trips4]
  have step : ∀ k : Fin 16, _ := fun k =>
    accTrip_block (.inr rfl) ok8 (T := tokK M X4 X8 X18 X19 ⟨k.val, by rw [trips4]; exact k.isLt⟩) k
      (fun j => tokK_reads M X4 X8 X18 X19 _ j _ rfl) (rowK M X20 1 (by omega))
  have succ : ∀ k : Fin 16, _ := fun k => congrArg Prod.fst
    (st_k0_t4_succ (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init ⟨k.val, by rw [trips4]; exact k.isLt⟩)
  constructor
  · refine gathers _ (fun k => (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init k).1.1 (ix2 h l)) fun k => ?_
    refine (congrFun (congrArg Prod.fst (succ k)) (ix2 h l)).trans ?_
    dsimp only
    rw [trip4]
    exact (step k _ h l).1
  · refine gathers _ (fun k => (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init k).1.2 (ix2 h l)) fun k => ?_
    refine (congrFun (congrArg Prod.snd (succ k)) (ix2 h l)).trans ?_
    dsimp only
    rw [trip4]
    exact (step k _ h l).2

/-- Every piece the second loop stores is a part of the gradient of the input. -/
theorem stored4 (v135 v137 v141 : FVec Ideal S8x128 .f32) (cst : Ideal .f32) (g1 g2 : FVec Ideal S1x128 .f32) (init : FVec Ideal S8x128 .f32 × FVec Ideal S8x128 .f32) (k : ℕ) (hk : k ≤ k0_t4_loop.trips) :
    View.PiecesOf (blockDxArr (M.arg8.view.read (Elt Ideal) X8) (M.arg4.view.read (Elt Ideal) X4)
        (M.arg18.view.read (Elt Ideal) X18) (M.arg19.view.read (Elt Ideal) X19) (k0_pay298 (F := Ideal) g1) (k0_pay299 (F := Ideal) g2) (rowK M X20 0 (by omega)) (rowK M X20 2 (by omega)))
      (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init k).2 := by
  induction k with
  | zero => rw [st_k0_t4.eq_1]; exact trivial
  | succ k ih =>
    rw [st_k0_t4_succ (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init ⟨k, hk⟩]
    dsimp only
    rw [pieces4]
    have h16 : k < 16 := by rw [trips4] at hk; omega
    have p1 : ∀ j : Fin 8, ∀ x : (pieceK1 M X4 X8 X18 X19 X20 (k0_pay298 (F := Ideal) g1) (k0_pay299 (F := Ideal) g2) ⟨k, hk⟩ j).1.shape.Idx,
        (pieceK1 M X4 X8 X18 X19 X20 (k0_pay298 (F := Ideal) g1) (k0_pay299 (F := Ideal) g2) ⟨k, hk⟩ j).2 x
          = blockDxArr (M.arg8.view.read (Elt Ideal) X8) (M.arg4.view.read (Elt Ideal) X4)
        (M.arg18.view.read (Elt Ideal) X18) (M.arg19.view.read (Elt Ideal) X19) (k0_pay298 (F := Ideal) g1) (k0_pay299 (F := Ideal) g2) (rowK M X20 0 (by omega)) (rowK M X20 2 (by omega))
          ((pieceK1 M X4 X8 X18 X19 X20 (k0_pay298 (F := Ideal) g1) (k0_pay299 (F := Ideal) g2) ⟨k, hk⟩ j).1.emb x) := fun j x => by
      change (W4 8).Idx at x
      obtain ⟨a, b, h, l, rfl⟩ : ∃ (a b : Fin 1) (h : Fin 8) (l : Fin 128), x = ix4 a b h l := ⟨_, _, _, _, eq_ix4 x⟩
      refine (Tok.piece1_apply (.inr rfl) ok8 (tokK_reads M X4 X8 X18 X19 ⟨k, hk⟩ j ⟨8 * k + j.val, by omega⟩ rfl) ⟨k, h16⟩ j rfl
        (k0_pay298 (F := Ideal) g1) (k0_pay299 (F := Ideal) g2) _ _ a b h l).trans ?_
      rw [show (pieceK1 M X4 X8 X18 X19 X20 (k0_pay298 (F := Ideal) g1) (k0_pay299 (F := Ideal) g2) ⟨k, hk⟩ j).1.emb (ix4 a b h l) = ix4 0 ⟨8 * k + j.val, by omega⟩ h (lo l) from
        emb_row ⟨8 * k + j.val, by omega⟩ 0 (k0_off9_eq ⟨k, hk⟩ j) (k0_off9_inb ⟨k, hk⟩ j) a b h l _ (Nat.zero_add _).symm]
      rfl
    have p2 : ∀ j : Fin 8, ∀ x : (pieceK2 M X4 X8 X18 X19 X20 (k0_pay298 (F := Ideal) g1) (k0_pay299 (F := Ideal) g2) ⟨k, hk⟩ j).1.shape.Idx,
        (pieceK2 M X4 X8 X18 X19 X20 (k0_pay298 (F := Ideal) g1) (k0_pay299 (F := Ideal) g2) ⟨k, hk⟩ j).2 x
          = blockDxArr (M.arg8.view.read (Elt Ideal) X8) (M.arg4.view.read (Elt Ideal) X4)
        (M.arg18.view.read (Elt Ideal) X18) (M.arg19.view.read (Elt Ideal) X19) (k0_pay298 (F := Ideal) g1) (k0_pay299 (F := Ideal) g2) (rowK M X20 0 (by omega)) (rowK M X20 2 (by omega))
          ((pieceK2 M X4 X8 X18 X19 X20 (k0_pay298 (F := Ideal) g1) (k0_pay299 (F := Ideal) g2) ⟨k, hk⟩ j).1.emb x) := fun j x => by
      change (W4 8).Idx at x
      obtain ⟨a, b, h, l, rfl⟩ : ∃ (a b : Fin 1) (h : Fin 8) (l : Fin 128), x = ix4 a b h l := ⟨_, _, _, _, eq_ix4 x⟩
      refine (Tok.piece2_apply (.inr rfl) ok8 (tokK_reads M X4 X8 X18 X19 ⟨k, hk⟩ j ⟨8 * k + j.val, by omega⟩ rfl) ⟨k, h16⟩ j rfl
        (k0_pay298 (F := Ideal) g1) (k0_pay299 (F := Ideal) g2) _ _ a b h l).trans ?_
      rw [show (pieceK2 M X4 X8 X18 X19 X20 (k0_pay298 (F := Ideal) g1) (k0_pay299 (F := Ideal) g2) ⟨k, hk⟩ j).1.emb (ix4 a b h l) = ix4 0 ⟨8 * k + j.val, by omega⟩ h (hi l) from
        emb_row ⟨8 * k + j.val, by omega⟩ 128 (k0_off10_eq ⟨k, hk⟩ j) (k0_off10_inb ⟨k, hk⟩ j) a b h l _ rfl]
      rfl
    exact ⟨p2 7, p1 7, p2 6, p1 6, p2 5, p1 5, p2 4, p1 4, p2 3, p1 3, p2 2, p1 2, p2 1, p1 1, p2 0, p1 0, ih (by omega)⟩

end K

end Cert.KernelIdeal.Value

end
-- ==== Proof.Factors.lean ====
/-
  The three rows of per-token factors, the two halves of a row of 256, and what the stores and loads of a point's
  scratch come to.
-/
module

public import proofs.«01_k».proof.Proof.Block

@[expose] public section

set_option maxRecDepth 16384

noncomputable section

namespace Cert.Rows

open Idealize.ShloMosaic Idealize.ShloMosaic.Pointwise

variable {H : ℕ}

abbrev X2 : Shape := ⟨2, ![1, 256]⟩

/-- The two constants of the mean square: `1/256`, and what is added to it. -/
abbrev cQ : EReal := (Scalar.ofBits .f32 0x3B800000#32 : Ideal .f32)
abbrev cE : EReal := (Scalar.ofBits .f32 0x358637BD#32 : Ideal .f32)

/-- The reciprocal root mean square, and the three rows, as the body computes them from the sums of squares. -/
def rstdV (o : Ok H) (ss : FVec Ideal (W H) .f32) (sx : FVec Ideal (W3 H) .f32) : FVec Ideal (W H) .f32 :=
  rsqrt (addf (mulf (mulf ss (mulf (shapeCast (W H) sx o.c32) (shapeCast (W H) sx o.c32)))
    (broadcast (W H) (Scalar.ofBits .f32 0x3B800000#32 : Ideal .f32))) (broadcast (W H) (Scalar.ofBits .f32 0x358637BD#32 : Ideal .f32)))
def rowV0 (o : Ok H) (ss : FVec Ideal (W H) .f32) (sx sy : FVec Ideal (W3 H) .f32) : FVec Ideal (W3 H) .f32 :=
  shapeCast (W3 H) (mulf (rstdV o ss sx) (shapeCast (W H) sy o.c32)) o.c23
def rowV1 (o : Ok H) (ss : FVec Ideal (W H) .f32) (sx sy : FVec Ideal (W3 H) .f32) : FVec Ideal (W3 H) .f32 :=
  shapeCast (W3 H) (mulf (mulf (rstdV o ss sx) (shapeCast (W H) sx o.c32)) (shapeCast (W H) sy o.c32)) o.c23
def rowV2 (o : Ok H) (ss : FVec Ideal (W H) .f32) (sx : FVec Ideal (W3 H) .f32) : FVec Ideal (W3 H) .f32 :=
  shapeCast (W3 H) (mulf (mulf (mulf (rstdV o ss sx) (shapeCast (W H) sx o.c32)) (mulf (rstdV o ss sx) (shapeCast (W H) sx o.c32)))
    (broadcast (W H) (Scalar.ofBits .f32 0x3B800000#32 : Ideal .f32))) o.c23

/-- The same, at a head and a token. -/
def blockRs (x : (X4 H).Idx → EReal) (sx : (W3 H).Idx → EReal) (h : Fin H) (t : Fin 128) : EReal :=
  Ideal.rsqrt (blockSS x h t * (sx (ix3 0 h t) * sx (ix3 0 h t)) * cQ + cE)
def rowA0 (x : (X4 H).Idx → EReal) (sx sy : (W3 H).Idx → EReal) : (W3 H).Idx → EReal :=
  fun i => blockRs x sx (i 1) (i 2) * sy (ix3 0 (i 1) (i 2))
def rowA1 (x : (X4 H).Idx → EReal) (sx sy : (W3 H).Idx → EReal) : (W3 H).Idx → EReal :=
  fun i => blockRs x sx (i 1) (i 2) * sx (ix3 0 (i 1) (i 2)) * sy (ix3 0 (i 1) (i 2))
def rowA2 (x : (X4 H).Idx → EReal) (sx : (W3 H).Idx → EReal) : (W3 H).Idx → EReal :=
  fun i => blockRs x sx (i 1) (i 2) * sx (ix3 0 (i 1) (i 2)) * (blockRs x sx (i 1) (i 2) * sx (ix3 0 (i 1) (i 2))) * cQ

section Read

variable (hH : H = 16 ∨ H = 8) (o : Ok H) {x : (X4 H).Idx → EReal} {ss : FVec Ideal (W H) .f32}
  (hss : ∀ h t, ss (ix2 h t) = blockSS x h t) (sx sy : FVec Ideal (W3 H) .f32)
include hH hss

theorem rstdV_apply (h : Fin H) (t : Fin 128) : rstdV o ss sx (ix2 h t) = blockRs x sx h t := by
  unfold blockRs
  rw [← hss]
  rcases hH with rfl | rfl <;> pointwise [rstdV]

theorem rowV0_eq : rowV0 o ss sx sy = rowA0 x sx sy := by
  funext i
  obtain ⟨a, h, t, rfl⟩ : ∃ (a : Fin 1) (h : Fin H) (t : Fin 128), i = ix3 a h t := ⟨_, _, _, eq_ix3 i⟩
  show _ = blockRs x sx h t * sy (ix3 0 h t)
  rw [← rstdV_apply hH o hss]
  rcases hH with rfl | rfl <;> pointwise [rowV0]

theorem rowV1_eq : rowV1 o ss sx sy = rowA1 x sx sy := by
  funext i
  obtain ⟨a, h, t, rfl⟩ : ∃ (a : Fin 1) (h : Fin H) (t : Fin 128), i = ix3 a h t := ⟨_, _, _, eq_ix3 i⟩
  show _ = blockRs x sx h t * sx (ix3 0 h t) * sy (ix3 0 h t)
  rw [← rstdV_apply hH o hss]
  rcases hH with rfl | rfl <;> pointwise [rowV1]

theorem rowV2_eq : rowV2 o ss sx = rowA2 x sx := by
  funext i
  obtain ⟨a, h, t, rfl⟩ : ∃ (a : Fin 1) (h : Fin H) (t : Fin 128), i = ix3 a h t := ⟨_, _, _, eq_ix3 i⟩
  show _ = blockRs x sx h t * sx (ix3 0 h t) * (blockRs x sx h t * sx (ix3 0 h t)) * cQ
  rw [← rstdV_apply hH o hss]
  rcases hH with rfl | rfl <;> pointwise [rowV2]

end Read

/-- A row of 256, from its halves. -/
def halves (w1 w2 : R.Idx → EReal) : X2.Idx → EReal :=
  fun i => if h : (i 1).val < 128 then w1 (ix2 0 ⟨(i 1).val, h⟩) else w2 (ix2 0 ⟨(i 1).val - 128, by
    have : (i 1).val < 256 := (i 1).isLt
    omega⟩)
/-- The halves of a row of 256. -/
def gLo (g : X2.Idx → EReal) : R.Idx → EReal := fun i => g (ix2 0 (lo (i 1)))
def gHi (g : X2.Idx → EReal) : R.Idx → EReal := fun i => g (ix2 0 (hi (i 1)))

/-- The gradient of the gain, a block's rows added to `old`. -/
def dgArr (x y : (X4 H).Idx → EReal) (C S : T2.Idx → EReal) (a1 : (W3 H).Idx → EReal) (old : X2.Idx → EReal) : X2.Idx → EReal :=
  halves (fun i => old (ix2 0 (lo (i 1))) + ∑ h, ∑ t, blockG1 x y C S a1 h (i 1) t)
    (fun i => old (ix2 0 (hi (i 1))) + ∑ h, ∑ t, blockG2 x y C S a1 h (i 1) t)

section Scratch

variable {sig : RefSig} {κ : Kind} {sp : Space}

theorem emb_lo (inb : ∀ a, (![0, 0] : Fin 2 → ℕ) a + R.size a ≤ X2.size a) (a : Fin 1) (l : Fin 128) :
    (Rect.unit (s := X2) ![0, 0] R.size inb).emb (ix2 a l) = ix2 0 (lo l) := by
  funext c
  refine Fin.ext ?_
  match c with
  | ⟨0, _⟩ => show 0 + 1 * a.val = 0; omega
  | ⟨1, _⟩ => show 0 + 1 * l.val = l.val; omega

theorem emb_hi (inb : ∀ a, (![0, 128] : Fin 2 → ℕ) a + R.size a ≤ X2.size a) (a : Fin 1) (l : Fin 128) :
    (Rect.unit (s := X2) ![0, 128] R.size inb).emb (ix2 a l) = ix2 0 (hi l) := by
  funext c
  refine Fin.ext ?_
  match c with
  | ⟨0, _⟩ => show 0 + 1 * a.val = 0; omega
  | ⟨1, _⟩ => show 128 + 1 * l.val = 128 + l.val; omega

theorem readAt_lo (v : View sig κ sp X2 .f32) (X : BufTy.Contents (Elt Ideal) v.ty)
    (inb : ∀ a, (![0, 0] : Fin 2 → ℕ) a + R.size a ≤ X2.size a) :
    v.readAt (Elt Ideal) (Rect.unit (s := X2) ![0, 0] R.size inb).toLoadRect X = gLo (v.read (Elt Ideal) X) := by
  funext i
  obtain ⟨a, l, rfl⟩ : ∃ (a : Fin 1) (l : Fin 128), i = ix2 a l := ⟨_, _, eq_ix2 i⟩
  exact congrArg (v.read (Elt Ideal) X) (emb_lo inb a l)

theorem readAt_hi (v : View sig κ sp X2 .f32) (X : BufTy.Contents (Elt Ideal) v.ty)
    (inb : ∀ a, (![0, 128] : Fin 2 → ℕ) a + R.size a ≤ X2.size a) :
    v.readAt (Elt Ideal) (Rect.unit (s := X2) ![0, 128] R.size inb).toLoadRect X = gHi (v.read (Elt Ideal) X) := by
  funext i
  obtain ⟨a, l, rfl⟩ : ∃ (a : Fin 1) (l : Fin 128), i = ix2 a l := ⟨_, _, eq_ix2 i⟩
  exact congrArg (v.read (Elt Ideal) X) (emb_hi inb a l)

/-- Two stores, one per half, leave the row of both, whatever was there. -/
theorem canon_halves (w1 w2 : R.Idx → EReal) (inb1 : ∀ a, (![0, 0] : Fin 2 → ℕ) a + R.size a ≤ X2.size a)
    (inb2 : ∀ a, (![0, 128] : Fin 2 → ℕ) a + R.size a ≤ X2.size a) (L : List (View.Piece (Elt Ideal) X2 .f32)) :
    View.canon ((⟨Rect.unit (s := X2) ![0, 128] R.size inb2, w2⟩ : View.Piece (Elt Ideal) X2 .f32)
      :: ⟨Rect.unit (s := X2) ![0, 0] R.size inb1, w1⟩ :: L) = halves w1 w2 := by
  funext y
  refine View.canon_append_of_piecesOf (halves w1 w2) L
    [⟨Rect.unit (s := X2) ![0, 128] R.size inb2, w2⟩, ⟨Rect.unit (s := X2) ![0, 0] R.size inb1, w1⟩] ⟨fun x => ?_, fun x => ?_, trivial⟩ y ?_
  · change R.Idx at x
    obtain ⟨a, l, rfl⟩ : ∃ (a : Fin 1) (l : Fin 128), x = ix2 a l := ⟨_, _, eq_ix2 x⟩
    obtain rfl : a = 0 := Subsingleton.elim _ _
    refine Eq.trans ?_ (congrArg (halves w1 w2) (emb_hi inb2 0 l)).symm
    unfold halves
    rw [dif_neg (by show ¬ 128 + l.val < 128; omega)]
    exact congrArg (fun l => w2 (ix2 0 l)) (Fin.ext (by show l.val = 128 + l.val - 128; omega))
  · change R.Idx at x
    obtain ⟨a, l, rfl⟩ : ∃ (a : Fin 1) (l : Fin 128), x = ix2 a l := ⟨_, _, eq_ix2 x⟩
    obtain rfl : a = 0 := Subsingleton.elim _ _
    refine Eq.trans ?_ (congrArg (halves w1 w2) (emb_lo inb1 0 l)).symm
    unfold halves
    rw [dif_pos (show ((ix2 0 (lo l) : X2.Idx) 1).val < 128 from l.isLt)]
    rfl
  · obtain ⟨a, n, rfl⟩ : ∃ (a : Fin 1) (n : Fin 256), y = ix2 a n := ⟨_, _, eq_ix2 y⟩
    obtain rfl : a = 0 := Subsingleton.elim _ _
    by_cases hn : n.val < 128
    · refine ⟨_, List.mem_cons_of_mem _ (List.mem_singleton_self _), ?_⟩
      rw [show (ix2 0 n : X2.Idx) = (Rect.unit (s := X2) ![0, 0] R.size inb1).emb (ix2 0 ⟨n.val, hn⟩) from (emb_lo inb1 0 ⟨n.val, hn⟩).symm,
        ← Rect.map_emb_univ]
      exact Finset.mem_map_of_mem _ (Finset.mem_univ _)
    · refine ⟨_, List.mem_cons_self, ?_⟩
      rw [show (ix2 0 n : X2.Idx) = (Rect.unit (s := X2) ![0, 128] R.size inb2).emb (ix2 0 ⟨n.val - 128, by omega⟩) from by
          rw [emb_hi]; exact congrArg (ix2 0) (Fin.ext (by show n.val = 128 + (n.val - 128); omega)),
        ← Rect.map_emb_univ]
      exact Finset.mem_map_of_mem _ (Finset.mem_univ _)

/-- A whole array stored is what is read. -/
theorem read_store {S : Shape} {e : EltTy} (v : View sig κ sp S e) (f : BufTy.Contents (Elt Ideal) v.ty) {off : Fin S.rank → ℕ}
    (h : off = fun _ => 0) (inb : ∀ a, off a + S.size a ≤ S.size a) (w : S.Idx → Elt Ideal e) :
    v.read (Elt Ideal) (v.writes (Elt Ideal) f [⟨Rect.unit off S.size inb, w⟩]) = w := by
  rw [View.read_writes_eq_canon _ _ _ (fun y => ⟨_, List.mem_singleton_self _, View.mem_set_unit_zero h inb y⟩),
    View.canon_unit_zero h]

/-- A whole array loaded. -/
theorem readAt_whole {S : Shape} {e : EltTy} (v : View sig κ sp S e) (f : BufTy.Contents (Elt Ideal) v.ty) {off : Fin S.rank → ℕ}
    (h : off = fun _ => 0) (inb : ∀ a, off a + S.size a ≤ S.size a) :
    v.readAt (Elt Ideal) (Rect.unit off S.size inb).toLoadRect f = v.read (Elt Ideal) f := by
  rw [View.readAt_eq_ld, View.ld_unit_zero h]

/-- The rows of the scratch. -/
abbrev S3 : Shape := ⟨3, ![3, 16, 128]⟩

theorem emb_slab {r : ℕ} (hr : r < 3) (hH : H ≤ 16) (inb : ∀ a, (![r, 0, 0] : Fin 3 → ℕ) a + (W3 H).size a ≤ S3.size a)
    (a : Fin 1) (h : Fin H) (t : Fin 128) :
    (Rect.unit (s := S3) ![r, 0, 0] (W3 H).size inb).emb (ix3 a h t) = ix3 ⟨r, hr⟩ ⟨h.val, by omega⟩ t := by
  funext c
  refine Fin.ext ?_
  match c with
  | ⟨0, _⟩ => show r + 1 * a.val = r; omega
  | ⟨1, _⟩ => show 0 + 1 * h.val = h.val; omega
  | ⟨2, _⟩ => show 0 + 1 * t.val = t.val; omega

/-- The row stored last is read back; one stored before others are read under them. -/
theorem slab_same (v : View sig κ sp S3 .f32) (f : BufTy.Contents (Elt Ideal) v.ty) {r : ℕ}
    (inb inb' : ∀ a, (![r, 0, 0] : Fin 3 → ℕ) a + (W3 H).size a ≤ S3.size a) (w : (W3 H).Idx → EReal)
    (L : List (View.Piece (Elt Ideal) S3 .f32)) :
    v.readAt (Elt Ideal) (Rect.unit (s := S3) ![r, 0, 0] (W3 H).size inb').toLoadRect
      (v.writes (Elt Ideal) f (⟨Rect.unit (s := S3) ![r, 0, 0] (W3 H).size inb, w⟩ :: L)) = w :=
  funext fun x => View.read_writes_cons_emb v f (Rect.unit (s := S3) ![r, 0, 0] (W3 H).size inb) w L x

theorem slab_ne (v : View sig κ sp S3 .f32) (f : BufTy.Contents (Elt Ideal) v.ty) {r r' : ℕ} (hr : r < 3) (hr' : r' < 3) (hH : H ≤ 16) (hne : r ≠ r')
    (inb : ∀ a, (![r, 0, 0] : Fin 3 → ℕ) a + (W3 H).size a ≤ S3.size a)
    (inb' : ∀ a, (![r', 0, 0] : Fin 3 → ℕ) a + (W3 H).size a ≤ S3.size a) (w : (W3 H).Idx → EReal)
    (L : List (View.Piece (Elt Ideal) S3 .f32)) :
    v.readAt (Elt Ideal) (Rect.unit (s := S3) ![r, 0, 0] (W3 H).size inb).toLoadRect
      (v.writes (Elt Ideal) f (⟨Rect.unit (s := S3) ![r', 0, 0] (W3 H).size inb', w⟩ :: L))
    = v.readAt (Elt Ideal) (Rect.unit (s := S3) ![r, 0, 0] (W3 H).size inb).toLoadRect (v.writes (Elt Ideal) f L) := by
  funext x
  show v.read (Elt Ideal) _ ((Rect.unit (s := S3) ![r, 0, 0] (W3 H).size inb).emb x)
    = v.read (Elt Ideal) _ ((Rect.unit (s := S3) ![r, 0, 0] (W3 H).size inb).emb x)
  rw [View.writes_cons]
  refine View.read_slice_write_of_not_mem (Rect.unit (s := S3) ![r', 0, 0] (W3 H).size inb') _ _ _ ?_
  rw [Rect.map_emb_univ]
  intro hm
  obtain ⟨x', hx'⟩ := (Rect.unit (s := S3) ![r', 0, 0] (W3 H).size inb').exists_idx_of_mem hm
  have hx'' : (Rect.unit (s := S3) ![r', 0, 0] (W3 H).size inb').emb x' = (Rect.unit (s := S3) ![r, 0, 0] (W3 H).size inb).emb x := hx'
  change (W3 H).Idx at x x'
  obtain ⟨a, h, t, rfl⟩ : ∃ (a : Fin 1) (h : Fin H) (t : Fin 128), x = ix3 a h t := ⟨_, _, _, eq_ix3 x⟩
  obtain ⟨a', h', t', rfl⟩ : ∃ (a : Fin 1) (h : Fin H) (t : Fin 128), x' = ix3 a h t := ⟨_, _, _, eq_ix3 x'⟩
  rw [emb_slab hr' hH, emb_slab hr hH] at hx''
  exact hne (congrArg Fin.val (congrFun hx'' 0)).symm

end Scratch

end Cert.Rows

end
-- ==== Proof.PointBlock.lean ====
/-
  The block a grid point computes, in terms of the blocks it is handed; and the steps from the loops' states to it.
-/
module

public import proofs.«01_k».proof.Proof.StateQ
public import proofs.«01_k».proof.Proof.StateK
public import proofs.«01_k».proof.Proof.Factors

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows

/-- The tables of cosines and sines a point computes, from its positions and the frequencies. -/
def tabC (x11 : Vec Ideal S1x1x128 .i32) (x10 : Vec Ideal S1x128 .f32) : T2.Idx → EReal :=
  k0_pay265 (F := Ideal) (k0_pay259 x11 x10) (k0_pay260 x11 x10) (k0_pay261 x11 x10) (k0_pay262 x11 x10)
def tabS (x11 : Vec Ideal S1x1x128 .i32) (x10 : Vec Ideal S1x128 .f32) : T2.Idx → EReal :=
  k0_pay266 (F := Ideal) (k0_pay259 x11 x10) (k0_pay260 x11 x10) (k0_pay261 x11 x10) (k0_pay262 x11 x10)

/-- The gradient of a block of inputs, and the gradient of the gain with the block added, at any number of heads. -/
def dxBlock {H : ℕ} (x y : (X4 H).Idx → EReal) (sx sy : (W3 H).Idx → EReal) (g : Rows.X2.Idx → EReal) (x11 : Vec Ideal S1x1x128 .i32)
    (x10 : Vec Ideal S1x128 .f32) : (X4 H).Idx → EReal :=
  blockDxArr x y (tabC x11 x10) (tabS x11 x10) (gLo g) (gHi g) (rowA0 x sx sy) (rowA2 x sx)
def dgBlock {H : ℕ} (x y : (X4 H).Idx → EReal) (sx sy : (W3 H).Idx → EReal) (x11 : Vec Ideal S1x1x128 .i32)
    (x10 : Vec Ideal S1x128 .f32) (old : Rows.X2.Idx → EReal) : Rows.X2.Idx → EReal :=
  dgArr x y (tabC x11 x10) (tabS x11 x10) (rowA1 x sx sy) old

theorem zero2 : (![0, 0] : Fin 2 → ℕ) = fun _ => 0 := by funext a; fin_cases a <;> rfl
theorem zero3 : (![0, 0, 0] : Fin 3 → ℕ) = fun _ => 0 := by funext a; fin_cases a <;> rfl

/-- What the scratch of tables holds. -/
theorem table_eq {sig : RefSig} {κ : Kind} {sp : Space} (v : View sig κ sp S128x128 .f32) (f : BufTy.Contents (Elt Ideal) v.ty)
    (inb : ∀ a, (![0, 0] : Fin 2 → ℕ) a + S128x128.size a ≤ S128x128.size a) {w w' : FVec Ideal S128x128 .f32} (h : w = w') :
    v.read (Elt Ideal) (v.writes (Elt Ideal) f [⟨Rect.unit ![0, 0] S128x128.size inb, w⟩]) = w' :=
  (read_store v f zero2 inb w).trans h

variable (𝒱 : Variants) (c : Dev nD) (bd : Option 𝒱.V) (i : grid0.Coords) (M : Refs)

section Q

variable {X2 : BufTy.Contents (Elt Ideal) M.arg2.view.ty} {X6 : BufTy.Contents (Elt Ideal) M.arg6.view.ty}
  {X18 : BufTy.Contents (Elt Ideal) M.arg18.view.ty} {X19 : BufTy.Contents (Elt Ideal) M.arg19.view.ty}
  {X20 : BufTy.Contents (Elt Ideal) M.arg20.view.ty}
  {y : Vec Ideal S1x128x16x256 .fp8e5m2} {x : Vec Ideal S1x128x16x256 .fp8e4m3} {sx sy : Vec Ideal S1x16x128 .f32}
  {x10 : Vec Ideal S1x128 .f32} {x11 : Vec Ideal S1x1x128 .i32} {g : Vec Ideal S1x256 .f32}

/-- The three rows, read back from the scratch. -/
theorem rowQ_0 (f : BufTy.Contents (Elt Ideal) M.arg20.view.ty) (i0 i1 i2) (w0 w1 w2 : FVec Ideal S1x16x128 .f32) (L : List (View.Piece (Elt Ideal) S3x16x128 .f32)) :
    rowQ M (M.arg20.view.writes (Elt Ideal) f (⟨Rect.unit (s := S3x16x128) ![2, 0, 0] S1x16x128.size i2, w2⟩ :: ⟨Rect.unit (s := S3x16x128) ![1, 0, 0] S1x16x128.size i1, w1⟩
      :: ⟨Rect.unit (s := S3x16x128) ![0, 0, 0] S1x16x128.size i0, w0⟩ :: L)) 0 (by omega) = w0 :=
  (slab_ne _ _ (by omega) (by omega) (by omega) (by omega) _ _ _ _).trans <|
    (slab_ne _ _ (by omega) (by omega) (by omega) (by omega) _ _ _ _).trans (slab_same _ _ _ _ _ _)

theorem rowQ_1 (f : BufTy.Contents (Elt Ideal) M.arg20.view.ty) (i1 i2) (w1 w2 : FVec Ideal S1x16x128 .f32) (L : List (View.Piece (Elt Ideal) S3x16x128 .f32)) :
    rowQ M (M.arg20.view.writes (Elt Ideal) f (⟨Rect.unit (s := S3x16x128) ![2, 0, 0] S1x16x128.size i2, w2⟩ :: ⟨Rect.unit (s := S3x16x128) ![1, 0, 0] S1x16x128.size i1, w1⟩
      :: L)) 1 (by omega) = w1 :=
  (slab_ne _ _ (by omega) (by omega) (by omega) (by omega) _ _ _ _).trans (slab_same _ _ _ _ _ _)

theorem rowQ_2 (f : BufTy.Contents (Elt Ideal) M.arg20.view.ty) (i2) (w2 : FVec Ideal S1x16x128 .f32) (L : List (View.Piece (Elt Ideal) S3x16x128 .f32)) :
    rowQ M (M.arg20.view.writes (Elt Ideal) f (⟨Rect.unit (s := S3x16x128) ![2, 0, 0] S1x16x128.size i2, w2⟩ :: L)) 2 (by omega) = w2 :=
  slab_same _ _ _ _ _ _

theorem laneQ (h : Fin 16) (n : Fin 128) : iota .tc S16x128 32 [1] iota_S16x128_d1_w32 (ix2 h n) = BitVec.ofNat 32 n.val := by
  pointwise

/-- The first loop's sums of squares. -/
theorem ssQ (h6 : M.arg6.view.read (Elt Ideal) X6 = x) (init : FVec Ideal S16x128 .f32) (h : Fin 16) (t : Fin 128) :
    st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 (iota .tc S16x128 32 [1] iota_S16x128_d1_w32) X6 init k0_t1_loop.trips (ix2 h t)
      = blockSS x h t := by
  subst h6
  exact final1 𝒱 c bd i M X6 _ laneQ init h t

/-- The three rows, as stored. -/
theorem rowQ0_eq (h6 : M.arg6.view.read (Elt Ideal) X6 = x) (init : FVec Ideal S16x128 .f32) {sx' sy' : Vec Ideal S1x16x128 .f32}
    (hx : sx' = sx) (hy : sy' = sy) :
    k0_pay273 (F := Ideal) (st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 (iota .tc S16x128 32 [1] iota_S16x128_d1_w32) X6 init k0_t1_loop.trips) sx' sy'
      = rowA0 x sx sy := by
  subst hx hy
  exact rowV0_eq (.inl rfl) ok16 (ssQ 𝒱 c bd i M h6 init) _ _
theorem rowQ1_eq (h6 : M.arg6.view.read (Elt Ideal) X6 = x) (init : FVec Ideal S16x128 .f32) {sx' sy' : Vec Ideal S1x16x128 .f32}
    (hx : sx' = sx) (hy : sy' = sy) :
    k0_pay274 (F := Ideal) (st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 (iota .tc S16x128 32 [1] iota_S16x128_d1_w32) X6 init k0_t1_loop.trips) sx' sy'
      = rowA1 x sx sy := by
  subst hx hy
  exact rowV1_eq (.inl rfl) ok16 (ssQ 𝒱 c bd i M h6 init) _ _
theorem rowQ2_eq (h6 : M.arg6.view.read (Elt Ideal) X6 = x) (init : FVec Ideal S16x128 .f32) {sx' : Vec Ideal S1x16x128 .f32}
    (hx : sx' = sx) :
    k0_pay275 (F := Ideal) (st_k0_t1 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 (iota .tc S16x128 32 [1] iota_S16x128_d1_w32) X6 init k0_t1_loop.trips) sx'
      = rowA2 x sx := by
  subst hx
  exact rowV2_eq (.inl rfl) ok16 (ssQ 𝒱 c bd i M h6 init) _

/-- The pieces stored are parts of the block. -/
theorem storedQ (h2 : M.arg2.view.read (Elt Ideal) X2 = y) (h6 : M.arg6.view.read (Elt Ideal) X6 = x)
    (h18 : M.arg18.view.read (Elt Ideal) X18 = tabC x11 x10) (h19 : M.arg19.view.read (Elt Ideal) X19 = tabS x11 x10)
    {g1 g2 : FVec Ideal S1x128 .f32} (hg1 : g1 = gLo g) (hg2 : g2 = gHi g)
    (ha0 : rowQ M X20 0 (by omega) = rowA0 x sx sy) (ha2 : rowQ M X20 2 (by omega) = rowA2 x sx)
    (init : FVec Ideal S16x128 .f32 × FVec Ideal S16x128 .f32) :
    View.PiecesOf (dxBlock x y sx sy g x11 x10)
      (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 (k0_pay276 (F := Ideal) g1) g2 X2 X6 X18 X19 X20 init k0_t2_loop.trips).2 := by
  subst hg1 hg2
  unfold dxBlock
  rw [← ha0, ← ha2, ← h2, ← h6, ← h18, ← h19]
  have e := stored2 𝒱 c bd i M X2 X6 X18 X19 X20 (gLo g) (gHi g) init k0_t2_loop.trips le_rfl
  rw [show k0_pay277 (F := Ideal) (gHi g) = gHi g from shapeCast_self _ _] at e
  rwa [show k0_pay276 (F := Ideal) (gLo g) = gLo g from shapeCast_self _ _]

/-- What is added to the gradient of the gain. -/
theorem gainQ (h2 : M.arg2.view.read (Elt Ideal) X2 = y) (h6 : M.arg6.view.read (Elt Ideal) X6 = x)
    (h18 : M.arg18.view.read (Elt Ideal) X18 = tabC x11 x10) (h19 : M.arg19.view.read (Elt Ideal) X19 = tabS x11 x10)
    (g1 g2 : FVec Ideal S1x128 .f32) (ha1 : rowQ M X20 1 (by omega) = rowA1 x sx sy)
    {old1 old2 : FVec Ideal S1x128 .f32} {old : Vec Ideal S1x256 .f32} (ho1 : old1 = gLo old) (ho2 : old2 = gHi old) :
    halves (k0_pay286 (F := Ideal) (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 (k0_pay278, k0_pay278) k0_t2_loop.trips).1.1 old1)
      (k0_pay287 (F := Ideal) (st_k0_t2 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 g1 g2 X2 X6 X18 X19 X20 (k0_pay278, k0_pay278) k0_t2_loop.trips).1.2 old2)
      = dgBlock x y sx sy x11 x10 old := by
  subst ho1 ho2
  unfold dgBlock
  have z : ∀ h l, k0_pay278 (F := Ideal) (ix2 h l) = 0 := fun h l => Ideal.ofBits_zero_f32
  refine congrArg₂ halves ?_ ?_ <;> funext n <;>
    obtain ⟨a, l, rfl⟩ : ∃ (a : Fin 1) (l : Fin 128), n = ix2 a l := ⟨_, _, eq_ix2 n⟩
  · refine (dgStep_apply (.inl rfl) ok16 _ _ a l).trans ?_
    refine congrArg (old (ix2 0 (lo l)) + ·) (Finset.sum_congr rfl fun h _ => ?_)
    rw [(final2 𝒱 c bd i M X2 X6 X18 X19 X20 g1 g2 _ h l).1, h2, h6, h18, h19, ha1]
    exact (congrArg (· + _) (z h l)).trans (zero_add _)
  · refine (dgStep_apply (.inl rfl) ok16 _ _ a l).trans ?_
    refine congrArg (old (ix2 0 (hi l)) + ·) (Finset.sum_congr rfl fun h _ => ?_)
    rw [(final2 𝒱 c bd i M X2 X6 X18 X19 X20 g1 g2 _ h l).2, h2, h6, h18, h19, ha1]
    exact (congrArg (· + _) (z h l)).trans (zero_add _)

end Q

section K

variable {X4 : BufTy.Contents (Elt Ideal) M.arg4.view.ty} {X8 : BufTy.Contents (Elt Ideal) M.arg8.view.ty}
  {X18 : BufTy.Contents (Elt Ideal) M.arg18.view.ty} {X19 : BufTy.Contents (Elt Ideal) M.arg19.view.ty}
  {X20 : BufTy.Contents (Elt Ideal) M.arg20.view.ty}
  {y : Vec Ideal S1x128x8x256 .fp8e5m2} {x : Vec Ideal S1x128x8x256 .fp8e4m3} {sx sy : Vec Ideal S1x8x128 .f32}
  {x10 : Vec Ideal S1x128 .f32} {x11 : Vec Ideal S1x1x128 .i32} {g : Vec Ideal S1x256 .f32}

/-- The three rows, read back from the scratch. -/
theorem rowK_0 (f : BufTy.Contents (Elt Ideal) M.arg20.view.ty) (i0 i1 i2) (w0 w1 w2 : FVec Ideal S1x8x128 .f32) (L : List (View.Piece (Elt Ideal) S3x16x128 .f32)) :
    rowK M (M.arg20.view.writes (Elt Ideal) f (⟨Rect.unit (s := S3x16x128) ![2, 0, 0] S1x8x128.size i2, w2⟩ :: ⟨Rect.unit (s := S3x16x128) ![1, 0, 0] S1x8x128.size i1, w1⟩
      :: ⟨Rect.unit (s := S3x16x128) ![0, 0, 0] S1x8x128.size i0, w0⟩ :: L)) 0 (by omega) = w0 :=
  (slab_ne _ _ (by omega) (by omega) (by omega) (by omega) _ _ _ _).trans <|
    (slab_ne _ _ (by omega) (by omega) (by omega) (by omega) _ _ _ _).trans (slab_same _ _ _ _ _ _)

theorem rowK_1 (f : BufTy.Contents (Elt Ideal) M.arg20.view.ty) (i1 i2) (w1 w2 : FVec Ideal S1x8x128 .f32) (L : List (View.Piece (Elt Ideal) S3x16x128 .f32)) :
    rowK M (M.arg20.view.writes (Elt Ideal) f (⟨Rect.unit (s := S3x16x128) ![2, 0, 0] S1x8x128.size i2, w2⟩ :: ⟨Rect.unit (s := S3x16x128) ![1, 0, 0] S1x8x128.size i1, w1⟩
      :: L)) 1 (by omega) = w1 :=
  (slab_ne _ _ (by omega) (by omega) (by omega) (by omega) _ _ _ _).trans (slab_same _ _ _ _ _ _)

theorem rowK_2 (f : BufTy.Contents (Elt Ideal) M.arg20.view.ty) (i2) (w2 : FVec Ideal S1x8x128 .f32) (L : List (View.Piece (Elt Ideal) S3x16x128 .f32)) :
    rowK M (M.arg20.view.writes (Elt Ideal) f (⟨Rect.unit (s := S3x16x128) ![2, 0, 0] S1x8x128.size i2, w2⟩ :: L)) 2 (by omega) = w2 :=
  slab_same _ _ _ _ _ _

theorem laneK_apply (h : Fin 8) (n : Fin 128) : laneK (ix2 h n) = BitVec.ofNat 32 n.val := by
  pointwise

/-- The first loop's sums of squares. -/
theorem ssK (h8 : M.arg8.view.read (Elt Ideal) X8 = x) (v112 : FVec Ideal S1x128 .f32) (init : FVec Ideal S8x128 .f32) (h : Fin 8) (t : Fin 128) :
    st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init k0_t3_loop.trips (ix2 h t)
      = blockSS x h t := by
  subst h8
  exact final3 𝒱 c bd i M X8 v112 laneK_apply init h t

/-- The three rows, as stored. -/
theorem rowK0_eq (h8 : M.arg8.view.read (Elt Ideal) X8 = x) (v112 : FVec Ideal S1x128 .f32) (init : FVec Ideal S8x128 .f32) {sx' sy' : Vec Ideal S1x8x128 .f32}
    (hx : sx' = sx) (hy : sy' = sy) :
    k0_pay295 (F := Ideal) (k0_pay291 sy') (k0_pay292 (st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init k0_t3_loop.trips) sx') (FloatOps.ofBits .f32 0x358637BD#32 : Ideal .f32)
      = rowA0 x sx sy := by
  subst hx hy
  exact rowV0_eq (.inr rfl) ok8 (ssK 𝒱 c bd i M h8 v112 init) _ _
theorem rowK1_eq (h8 : M.arg8.view.read (Elt Ideal) X8 = x) (v112 : FVec Ideal S1x128 .f32) (init : FVec Ideal S8x128 .f32) {sx' sy' : Vec Ideal S1x8x128 .f32}
    (hx : sx' = sx) (hy : sy' = sy) :
    k0_pay296 (F := Ideal) (k0_pay290 sx') (k0_pay291 sy') (k0_pay292 (st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init k0_t3_loop.trips) sx') (FloatOps.ofBits .f32 0x358637BD#32 : Ideal .f32)
      = rowA1 x sx sy := by
  subst hx hy
  exact rowV1_eq (.inr rfl) ok8 (ssK 𝒱 c bd i M h8 v112 init) _ _
theorem rowK2_eq (h8 : M.arg8.view.read (Elt Ideal) X8 = x) (v112 : FVec Ideal S1x128 .f32) (init : FVec Ideal S8x128 .f32) {sx' : Vec Ideal S1x8x128 .f32}
    (hx : sx' = sx) :
    k0_pay297 (F := Ideal) (k0_pay290 sx') (k0_pay292 (st_k0_t3 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v112 laneK X8 init k0_t3_loop.trips) sx') (FloatOps.ofBits .f32 0x358637BD#32 : Ideal .f32)
      = rowA2 x sx := by
  subst hx
  exact rowV2_eq (.inr rfl) ok8 (ssK 𝒱 c bd i M h8 v112 init) _

/-- The pieces stored are parts of the block. -/
theorem storedK (h4 : M.arg4.view.read (Elt Ideal) X4 = y) (h8 : M.arg8.view.read (Elt Ideal) X8 = x)
    (h18 : M.arg18.view.read (Elt Ideal) X18 = tabC x11 x10) (h19 : M.arg19.view.read (Elt Ideal) X19 = tabS x11 x10)
    (v135 v137 v141 : FVec Ideal S8x128 .f32) (cst : Ideal .f32) {g1 g2 : FVec Ideal S1x128 .f32} (hg1 : g1 = gLo g) (hg2 : g2 = gHi g)
    (ha0 : rowK M X20 0 (by omega) = rowA0 x sx sy) (ha2 : rowK M X20 2 (by omega) = rowA2 x sx)
    (init : FVec Ideal S8x128 .f32 × FVec Ideal S8x128 .f32) :
    View.PiecesOf (dxBlock x y sx sy g x11 x10)
      (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 init k0_t4_loop.trips).2 := by
  subst hg1 hg2
  unfold dxBlock
  rw [← ha0, ← ha2, ← h4, ← h8, ← h18, ← h19]
  have e := stored4 𝒱 c bd i M X4 X8 X18 X19 X20 v135 v137 v141 cst (gLo g) (gHi g) init k0_t4_loop.trips le_rfl
  rwa [show k0_pay299 (F := Ideal) (gHi g) = gHi g from shapeCast_self _ _, show k0_pay298 (F := Ideal) (gLo g) = gLo g from shapeCast_self _ _] at e

/-- What is added to the gradient of the gain. -/
theorem gainK (h4 : M.arg4.view.read (Elt Ideal) X4 = y) (h8 : M.arg8.view.read (Elt Ideal) X8 = x)
    (h18 : M.arg18.view.read (Elt Ideal) X18 = tabC x11 x10) (h19 : M.arg19.view.read (Elt Ideal) X19 = tabS x11 x10)
    (v135 v137 v141 : FVec Ideal S8x128 .f32) (cst : Ideal .f32) (g1 g2 : FVec Ideal S1x128 .f32) (ha1 : rowK M X20 1 (by omega) = rowA1 x sx sy)
    {old1 old2 : FVec Ideal S1x128 .f32} {old : Vec Ideal S1x256 .f32} (ho1 : old1 = gLo old) (ho2 : old2 = gHi old) :
    halves (k0_pay308 (F := Ideal) (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 (k0_pay300, k0_pay300) k0_t4_loop.trips).1.1 old1)
      (k0_pay1 (F := Ideal) (st_k0_t4 (F := Ideal) 𝒱 c bd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 v135 v137 v141 cst g1 g2 X4 X8 X18 X19 X20 (k0_pay300, k0_pay300) k0_t4_loop.trips).1.2 old2)
      = dgBlock x y sx sy x11 x10 old := by
  subst ho1 ho2
  unfold dgBlock
  have z : ∀ h l, k0_pay300 (F := Ideal) (ix2 h l) = 0 := fun h l => Ideal.ofBits_zero_f32
  refine congrArg₂ halves ?_ ?_ <;> funext n <;>
    obtain ⟨a, l, rfl⟩ : ∃ (a : Fin 1) (l : Fin 128), n = ix2 a l := ⟨_, _, eq_ix2 n⟩
  · refine (dgStep_apply (.inr rfl) ok8 _ _ a l).trans ?_
    refine congrArg (old (ix2 0 (lo l)) + ·) (Finset.sum_congr rfl fun h _ => ?_)
    rw [(final4 𝒱 c bd i M X4 X8 X18 X19 X20 v135 v137 v141 cst g1 g2 _ h l).1, h4, h8, h18, h19, ha1]
    exact (congrArg (· + _) (z h l)).trans (zero_add _)
  · refine (dgStep_apply (.inr rfl) ok8 _ _ a l).trans ?_
    refine congrArg (old (ix2 0 (hi l)) + ·) (Finset.sum_congr rfl fun h _ => ?_)
    rw [(final4 𝒱 c bd i M X4 X8 X18 X19 X20 v135 v137 v141 cst g1 g2 _ h l).2, h4, h8, h18, h19, ha1]
    exact (congrArg (· + _) (z h l)).trans (zero_add _)

end K

end Cert.KernelIdeal.Value

end
-- ==== Proof.PointOut.lean ====
/-
  What each grid point leaves in the four blocks of the outputs: the gradients of its block of inputs, and the
  gradients of the two gains with the block's part added (to zero at the first point, to what was there afterwards).
-/
module

public import proofs.«01_k».proof.Proof.Gen.KernelIdeal.Frame
public import proofs.«01_k».proof.Proof.PointBlock
public import Idealize.ShloMosaic.Lib.Pipeline.ReadBack

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows

/-- A load of the whole of a block is the block. -/
theorem load_whole {S : Shape} {e : EltTy} {m : Memref sig .tc .vmem S e} (h : m.IsWhole) (x : Vec Ideal S e) {off : Fin S.rank → ℕ}
    (ho : off = fun _ => 0) (inb : ∀ a, off a + S.size a ≤ S.size a) :
    m.view.readAt (Elt Ideal) (Rect.unit off S.size inb).toLoadRect (h.unread x) = x :=
  (readAt_whole _ _ ho _).trans (h.read_unread x)
theorem load_lo {m : Memref sig .tc .vmem S1x256 .f32} (h : m.IsWhole) (x : Vec Ideal S1x256 .f32)
    (inb : ∀ a, (![0, 0] : Fin 2 → ℕ) a + S1x128.size a ≤ S1x256.size a) :
    m.view.readAt (Elt Ideal) (Rect.unit (s := S1x256) ![0, 0] S1x128.size inb).toLoadRect (h.unread x) = gLo x :=
  (readAt_lo _ _ _).trans (congrArg gLo (h.read_unread x))
theorem load_hi {m : Memref sig .tc .vmem S1x256 .f32} (h : m.IsWhole) (x : Vec Ideal S1x256 .f32)
    (inb : ∀ a, (![0, 128] : Fin 2 → ℕ) a + S1x128.size a ≤ S1x256.size a) :
    m.view.readAt (Elt Ideal) (Rect.unit (s := S1x256) ![0, 128] S1x128.size inb).toLoadRect (h.unread x) = gHi x :=
  (readAt_hi _ _ _).trans (congrArg gHi (h.read_unread x))

/-- The halves of a row that has just been zeroed. -/
theorem fill_lo {m : Memref sig .tc .vmem S1x256 .f32} {z : Vec Ideal S1x256 .f32} (hz : z = fun _ => 0)
    (inb : ∀ a, (![0, 0] : Fin 2 → ℕ) a + S1x256.size a ≤ S1x256.size a)
    (inb1 : ∀ a, (![0, 0] : Fin 2 → ℕ) a + S1x128.size a ≤ S1x256.size a) :
    m.view.readCov [(⟨Rect.unit (s := S1x256) ![0, 0] S1x256.size inb, z⟩ : View.Piece (Elt Ideal) S1x256 .f32)]
      (Rect.unit (s := S1x256) ![0, 0] S1x128.size inb1).toLoadRect = gLo fun _ => 0 := by
  subst hz
  exact View.readCov_fill _ inb _ _ _ (congrFun zero2)
theorem fill_hi {m : Memref sig .tc .vmem S1x256 .f32} {z : Vec Ideal S1x256 .f32} (hz : z = fun _ => 0)
    (inb : ∀ a, (![0, 0] : Fin 2 → ℕ) a + S1x256.size a ≤ S1x256.size a)
    (inb1 : ∀ a, (![0, 0] : Fin 2 → ℕ) a + S1x128.size a ≤ S1x256.size a)
    (inb2 : ∀ a, (![0, 128] : Fin 2 → ℕ) a + S1x128.size a ≤ S1x256.size a) (w : Vec Ideal S1x128 .f32) :
    m.view.readCov [(⟨Rect.unit (s := S1x256) ![0, 0] S1x128.size inb1, w⟩ : View.Piece (Elt Ideal) S1x256 .f32),
        ⟨Rect.unit (s := S1x256) ![0, 0] S1x256.size inb, z⟩]
      (Rect.unit (s := S1x256) ![0, 128] S1x128.size inb2).toLoadRect = gHi fun _ => 0 := by
  subst hz
  exact (View.readCov_skip _ _ _ _ _ rfl).trans (View.readCov_fill _ inb _ _ _ (congrFun zero2))
theorem zeroQ : k0_pay254 (F := Ideal) = fun _ => 0 := funext fun _ => Ideal.ofBits_zero_f32
theorem zeroK : k0_pay255 (F := Ideal) = fun _ => 0 := funext fun _ => Ideal.ofBits_zero_f32

/-- The tables. -/
theorem tabC_eq {a x11 : Vec Ideal S1x1x128 .i32} {b x10 : Vec Ideal S1x128 .f32} (ha : a = x11) (hb : b = x10) :
    k0_pay265 (F := Ideal) (k0_pay259 a b) (k0_pay260 a b) (k0_pay261 a b) (k0_pay262 a b) = tabC x11 x10 := by
  subst ha hb; rfl
theorem tabS_eq {a x11 : Vec Ideal S1x1x128 .i32} {b x10 : Vec Ideal S1x128 .f32} (ha : a = x11) (hb : b = x10) :
    k0_pay266 (F := Ideal) (k0_pay259 a b) (k0_pay260 a b) (k0_pay261 a b) (k0_pay262 a b) = tabS x11 x10 := by
  subst ha hb; rfl

variable (c : Dev nD) (i : grid0.Coords) (M : Refs)
  (x0 : Vec Ideal S1x128x16x256 .fp8e5m2) (x1 : Vec Ideal S1x16x128 .f32) (x2 : Vec Ideal S1x128x8x256 .fp8e5m2)
  (x3 : Vec Ideal S1x8x128 .f32) (x4 : Vec Ideal S1x128x16x256 .fp8e4m3) (x5 : Vec Ideal S1x16x128 .f32)
  (x6 : Vec Ideal S1x128x8x256 .fp8e4m3) (x7 : Vec Ideal S1x8x128 .f32) (x8 : Vec Ideal S1x256 .f32) (x9 : Vec Ideal S1x256 .f32)
  (x10 : Vec Ideal S1x128 .f32) (x11 : Vec Ideal S1x1x128 .i32) (xo14 : Vec Ideal S1x256 .f32) (xo15 : Vec Ideal S1x256 .f32)

theorem out_A_12 (hc0 : cond0_0 i) : out0_A_12 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 = dxBlock x4 x0 x5 x1 x8 x11 x10 := by
  funext y
  unfold out0_A_12
  rw [View.read_writes_eq_canon _ _ _ (cover0_A_12 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11)]
  refine View.canon_apply_of_pieces _ _ (View.PiecesOf.mem ?_) y (cover0_A_12 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 y)
  unfold kernelRun0_A
  dsimp only
  sl_unfold_words
  exact storedQ Variants.none c none i M (M.harg2.read_unread x0) (M.harg6.read_unread x4) (table_eq _ _ _ (tabC_eq (load_whole M.harg13 x11 zero3 _) (load_whole M.harg12 x10 zero2 _))) (table_eq _ _ _ (tabS_eq (load_whole M.harg13 x11 zero3 _) (load_whole M.harg12 x10 zero2 _)))
    (load_lo M.harg10 x8 _) (load_hi M.harg10 x8 _)
    ((rowQ_0 M _ _ _ _ _ _ _ _ ).trans (rowQ0_eq Variants.none c none i M (M.harg6.read_unread x4) _ (load_whole M.harg7 x5 zero3 _) (load_whole M.harg3 x1 zero3 _)))
    ((rowQ_2 M _ _ _ _ ).trans (rowQ2_eq Variants.none c none i M (M.harg6.read_unread x4) _ (load_whole M.harg7 x5 zero3 _))) _

theorem out_A_13 (hc0 : cond0_0 i) : out0_A_13 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 = dxBlock x6 x2 x7 x3 x9 x11 x10 := by
  funext y
  unfold out0_A_13
  rw [View.read_writes_eq_canon _ _ _ (cover0_A_13 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11)]
  refine View.canon_apply_of_pieces _ _ (View.PiecesOf.mem ?_) y (cover0_A_13 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 y)
  unfold kernelRun0_A
  dsimp only
  sl_unfold_words
  exact storedK Variants.none c none i M (M.harg4.read_unread x2) (M.harg8.read_unread x6) (table_eq _ _ _ (tabC_eq (load_whole M.harg13 x11 zero3 _) (load_whole M.harg12 x10 zero2 _))) (table_eq _ _ _ (tabS_eq (load_whole M.harg13 x11 zero3 _) (load_whole M.harg12 x10 zero2 _)))
    _ _ _ _ (load_lo M.harg11 x9 _) (load_hi M.harg11 x9 _)
    ((rowK_0 M _ _ _ _ _ _ _ _ ).trans (rowK0_eq Variants.none c none i M (M.harg8.read_unread x6) _ _ (load_whole M.harg9 x7 zero3 _) (load_whole M.harg5 x3 zero3 _)))
    ((rowK_2 M _ _ _ _ ).trans (rowK2_eq Variants.none c none i M (M.harg8.read_unread x6) _ _ (load_whole M.harg9 x7 zero3 _))) _

theorem out_A_14 (hc0 : cond0_0 i) : out0_A_14 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 = dgBlock x4 x0 x5 x1 x11 x10 (fun _ => 0) := by
  unfold out0_A_14
  rw [View.read_writes_eq_canon _ _ _ (cover0_A_14 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11)]
  unfold kernelRun0_A
  dsimp only
  sl_unfold_words
  exact (canon_halves _ _ _ _ _).trans (gainQ Variants.none c none i M (M.harg2.read_unread x0) (M.harg6.read_unread x4) (table_eq _ _ _ (tabC_eq (load_whole M.harg13 x11 zero3 _) (load_whole M.harg12 x10 zero2 _))) (table_eq _ _ _ (tabS_eq (load_whole M.harg13 x11 zero3 _) (load_whole M.harg12 x10 zero2 _))) _ _
    ((rowQ_1 M _ _ _ _ _ _ ).trans (rowQ1_eq Variants.none c none i M (M.harg6.read_unread x4) _ (load_whole M.harg7 x5 zero3 _) (load_whole M.harg3 x1 zero3 _)))
    (fill_lo zeroQ _ _) (fill_hi zeroQ _ _ _ _))

theorem out_A_15 (hc0 : cond0_0 i) : out0_A_15 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 = dgBlock x6 x2 x7 x3 x11 x10 (fun _ => 0) := by
  unfold out0_A_15
  rw [View.read_writes_eq_canon _ _ _ (cover0_A_15 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11)]
  unfold kernelRun0_A
  dsimp only
  sl_unfold_words
  exact (canon_halves _ _ _ _ _).trans (gainK Variants.none c none i M (M.harg4.read_unread x2) (M.harg8.read_unread x6) (table_eq _ _ _ (tabC_eq (load_whole M.harg13 x11 zero3 _) (load_whole M.harg12 x10 zero2 _))) (table_eq _ _ _ (tabS_eq (load_whole M.harg13 x11 zero3 _) (load_whole M.harg12 x10 zero2 _))) _ _ _ _ _ _
    ((rowK_1 M _ _ _ _ _ _ ).trans (rowK1_eq Variants.none c none i M (M.harg8.read_unread x6) _ _ (load_whole M.harg9 x7 zero3 _) (load_whole M.harg5 x3 zero3 _)))
    (fill_lo zeroK _ _) (fill_hi zeroK _ _ _ _))

theorem out_B_12 (hc0 : ¬cond0_0 i) : out0_B_12 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15 = dxBlock x4 x0 x5 x1 x8 x11 x10 := by
  funext y
  unfold out0_B_12
  rw [View.read_writes_eq_canon _ _ _ (cover0_B_12 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15)]
  refine View.canon_apply_of_pieces _ _ (View.PiecesOf.mem ?_) y (cover0_B_12 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15 y)
  unfold kernelRun0_B
  dsimp only
  sl_unfold_words
  exact storedQ Variants.none c none i M (M.harg2.read_unread x0) (M.harg6.read_unread x4) (table_eq _ _ _ (tabC_eq (load_whole M.harg13 x11 zero3 _) (load_whole M.harg12 x10 zero2 _))) (table_eq _ _ _ (tabS_eq (load_whole M.harg13 x11 zero3 _) (load_whole M.harg12 x10 zero2 _)))
    (load_lo M.harg10 x8 _) (load_hi M.harg10 x8 _)
    ((rowQ_0 M _ _ _ _ _ _ _ _ ).trans (rowQ0_eq Variants.none c none i M (M.harg6.read_unread x4) _ (load_whole M.harg7 x5 zero3 _) (load_whole M.harg3 x1 zero3 _)))
    ((rowQ_2 M _ _ _ _ ).trans (rowQ2_eq Variants.none c none i M (M.harg6.read_unread x4) _ (load_whole M.harg7 x5 zero3 _))) _

theorem out_B_13 (hc0 : ¬cond0_0 i) : out0_B_13 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15 = dxBlock x6 x2 x7 x3 x9 x11 x10 := by
  funext y
  unfold out0_B_13
  rw [View.read_writes_eq_canon _ _ _ (cover0_B_13 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15)]
  refine View.canon_apply_of_pieces _ _ (View.PiecesOf.mem ?_) y (cover0_B_13 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15 y)
  unfold kernelRun0_B
  dsimp only
  sl_unfold_words
  exact storedK Variants.none c none i M (M.harg4.read_unread x2) (M.harg8.read_unread x6) (table_eq _ _ _ (tabC_eq (load_whole M.harg13 x11 zero3 _) (load_whole M.harg12 x10 zero2 _))) (table_eq _ _ _ (tabS_eq (load_whole M.harg13 x11 zero3 _) (load_whole M.harg12 x10 zero2 _)))
    _ _ _ _ (load_lo M.harg11 x9 _) (load_hi M.harg11 x9 _)
    ((rowK_0 M _ _ _ _ _ _ _ _ ).trans (rowK0_eq Variants.none c none i M (M.harg8.read_unread x6) _ _ (load_whole M.harg9 x7 zero3 _) (load_whole M.harg5 x3 zero3 _)))
    ((rowK_2 M _ _ _ _ ).trans (rowK2_eq Variants.none c none i M (M.harg8.read_unread x6) _ _ (load_whole M.harg9 x7 zero3 _))) _

theorem out_B_14 (hc0 : ¬cond0_0 i) : out0_B_14 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15 = dgBlock x4 x0 x5 x1 x11 x10 xo14 := by
  unfold out0_B_14
  rw [View.read_writes_eq_canon _ _ _ (cover0_B_14 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15)]
  unfold kernelRun0_B
  dsimp only
  sl_unfold_words
  exact (canon_halves _ _ _ _ _).trans (gainQ Variants.none c none i M (M.harg2.read_unread x0) (M.harg6.read_unread x4) (table_eq _ _ _ (tabC_eq (load_whole M.harg13 x11 zero3 _) (load_whole M.harg12 x10 zero2 _))) (table_eq _ _ _ (tabS_eq (load_whole M.harg13 x11 zero3 _) (load_whole M.harg12 x10 zero2 _))) _ _
    ((rowQ_1 M _ _ _ _ _ _ ).trans (rowQ1_eq Variants.none c none i M (M.harg6.read_unread x4) _ (load_whole M.harg7 x5 zero3 _) (load_whole M.harg3 x1 zero3 _)))
    (load_lo M.harg16 xo14 _) (load_hi M.harg16 xo14 _))

theorem out_B_15 (hc0 : ¬cond0_0 i) : out0_B_15 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15 = dgBlock x6 x2 x7 x3 x11 x10 xo15 := by
  unfold out0_B_15
  rw [View.read_writes_eq_canon _ _ _ (cover0_B_15 c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 hc0 x0 x1 x2 x3 x4 x5 x6 x7 x8 x9 x10 x11 xo14 xo15)]
  unfold kernelRun0_B
  dsimp only
  sl_unfold_words
  exact (canon_halves _ _ _ _ _).trans (gainK Variants.none c none i M (M.harg4.read_unread x2) (M.harg8.read_unread x6) (table_eq _ _ _ (tabC_eq (load_whole M.harg13 x11 zero3 _) (load_whole M.harg12 x10 zero2 _))) (table_eq _ _ _ (tabS_eq (load_whole M.harg13 x11 zero3 _) (load_whole M.harg12 x10 zero2 _))) _ _ _ _ _ _
    ((rowK_1 M _ _ _ _ _ _ ).trans (rowK1_eq Variants.none c none i M (M.harg8.read_unread x6) _ _ (load_whole M.harg9 x7 zero3 _) (load_whole M.harg5 x3 zero3 _)))
    (load_lo M.harg17 xo15 _) (load_hi M.harg17 xo15 _))

end Cert.KernelIdeal.Value

end
-- ==== Proof.RowAlgebra.lean ====
/-
  The arithmetic of one row, over the extended reals.

  A row is one token of one head: codes `y` of the incoming gradient with scale `sy`, codes `x` of the normalised
  vector with scale `sx`, both in two halves. The kernel keeps the scales out of the sums and multiplies them in
  afterwards; the reference scales every element first. The two agree when `sy` is nonnegative and finite and `sx`
  nonnegative: a nonnegative finite factor distributes over any sum of extended reals, and when `sx` is infinite the
  reciprocal root is zero or the row is zero.
-/
module

public import Idealize.ShloMosaic.PureOps.Ideal.Laws

@[expose] public section

noncomputable section

namespace Cert.RowAlgebra

open Idealize.ShloMosaic

variable {ι : Type} [Fintype ι]

/-- A nonnegative finite factor comes out of a finite sum. -/
theorem mul_sum {k : EReal} (hk : 0 ≤ k) (hk' : k ≠ ⊤) (f : ι → EReal) : k * ∑ l, f l = ∑ l, k * f l := by
  classical
  have h : ∀ s : Finset ι, k * ∑ l ∈ s, f l = ∑ l ∈ s, k * f l := fun s => by
    induction s using Finset.induction_on with
    | empty => simp
    | insert a s ha ih =>
      rw [Finset.sum_insert ha, Finset.sum_insert ha, EReal.left_distrib_of_nonneg_of_ne_top hk hk', ih]
  exact h _

/-- Any factor comes out of a finite sum of nonnegative terms. -/
theorem sum_mul {f : ι → EReal} (hf : ∀ l, 0 ≤ f l) (k : EReal) : (∑ l, f l) * k = ∑ l, f l * k := by
  classical
  have h : ∀ s : Finset ι, (∑ l ∈ s, f l) * k = ∑ l ∈ s, f l * k := fun s => by
    induction s using Finset.induction_on with
    | empty => simp
    | insert a s ha ih =>
      rw [Finset.sum_insert ha, Finset.sum_insert ha,
        EReal.right_distrib_of_nonneg (hf a) (Finset.sum_nonneg fun l _ => hf l), ih]
  exact h _

theorem mul_sub {k : EReal} (hk : 0 ≤ k) (hk' : k ≠ ⊤) (a b : EReal) : k * (a - b) = k * a - k * b := by
  rw [sub_eq_add_neg, EReal.left_distrib_of_nonneg_of_ne_top hk hk', mul_neg, ← sub_eq_add_neg]

theorem sq_nonneg (a : EReal) : 0 ≤ a * a := by
  induction a using EReal.rec with
  | bot => simp
  | top => simp
  | coe r => exact_mod_cast mul_self_nonneg r

/-- The sum of the squares of a row's codes. -/
def ss (x1 x2 : ι → EReal) : EReal := ∑ l, (x1 l * x1 l + x2 l * x2 l)

/-- The weighted sum the gradient of the normalisation takes. -/
def dot (d1 d2 x1 x2 g1 g2 : ι → EReal) : EReal := ∑ l, (d1 l * x1 l * g1 l + d2 l * x2 l * g2 l)

theorem ss_nonneg (x1 x2 : ι → EReal) : 0 ≤ ss x1 x2 :=
  Finset.sum_nonneg fun _ _ => add_nonneg (sq_nonneg _) (sq_nonneg _)

/-- The mean square of the scaled row: the reference's (`Σ (x·sx)²`) and the kernel's (`(Σ x²)·sx²`). -/
theorem meanSquare (x1 x2 : ι → EReal) (sx : EReal) :
    (∑ l, (x1 l * sx * (x1 l * sx) + x2 l * sx * (x2 l * sx))) = ss x1 x2 * (sx * sx) := by
  rw [ss, sum_mul fun l => add_nonneg (sq_nonneg _) (sq_nonneg _)]
  refine Finset.sum_congr rfl fun l _ => ?_
  rw [EReal.right_distrib_of_nonneg (sq_nonneg _) (sq_nonneg _), mul_mul_mul_comm, mul_mul_mul_comm (x2 l)]

/-- The reciprocal root of a nonnegative mean plus a positive constant is a nonnegative real. -/
theorem rsqrt_nonneg {v : EReal} (hv : 0 ≤ v) {e : ℝ} (he : 0 < e) :
    0 ≤ Ideal.rsqrt (v + e) ∧ Ideal.rsqrt (v + e) ≠ ⊤ := by
  induction v using EReal.rec with
  | bot => simp at hv
  | top => simp
  | coe r =>
    have hr : 0 ≤ r := by exact_mod_cast hv
    have h : 0 < r + e := by linarith
    rw [← EReal.coe_add, Ideal.rsqrt_coe, if_neg (not_lt.2 h.le), if_neg h.ne']
    exact ⟨by exact_mod_cast inv_nonneg.2 (Real.sqrt_nonneg _), EReal.coe_ne_top _⟩

/-- With an infinite scale the reciprocal root is zero, or every code of the row is zero. -/
theorem rsqrt_top (x1 x2 : ι → EReal) {q e : ℝ} (hq : 0 < q) :
    Ideal.rsqrt (ss x1 x2 * (⊤ * ⊤) * q + e) = 0 ∨ ∀ l, x1 l = 0 ∧ x2 l = 0 := by
  by_cases h : ss x1 x2 = 0
  · right
    intro l
    have hl := (Finset.sum_eq_zero_iff_of_nonneg (fun l _ => add_nonneg (sq_nonneg _) (sq_nonneg _))).1 h l (Finset.mem_univ l)
    have := (add_eq_zero_iff_of_nonneg (sq_nonneg (x1 l)) (sq_nonneg (x2 l))).1 hl
    simpa using this
  · left
    have hpos : 0 < ss x1 x2 := lt_of_le_of_ne (ss_nonneg _ _) (Ne.symm h)
    rw [EReal.top_mul_top, EReal.mul_top_of_pos hpos, EReal.top_mul_coe_of_pos hq]
    simp

/-- The kernel's rotated gradient with the scale taken out, and the reference's with the scale inside. -/
theorem rot_add {sy : EReal} (h : 0 ≤ sy) (h' : sy ≠ ⊤) (y1 y2 c s : EReal) :
    y1 * sy * c + y2 * sy * s = sy * (y1 * c + y2 * s) := by
  rw [EReal.left_distrib_of_nonneg_of_ne_top h h']; ac_rfl

theorem rot_sub {sy : EReal} (h : 0 ≤ sy) (h' : sy ≠ ⊤) (y1 y2 c s : EReal) :
    y2 * sy * c - y1 * sy * s = sy * (y2 * c - y1 * s) := by
  rw [mul_sub h h']; ac_rfl

/-- ONE ELEMENT of the gradient of the row: the kernel's form on the left, the reference's on the right. `d`, `g`, `x`
    are the element's own rotated gradient, gain and code; `r` is the reciprocal root. -/
theorem dx_eq {sy sx r : EReal} (hsy : 0 ≤ sy) (hsy' : sy ≠ ⊤) (hsx : 0 ≤ sx) (hr : 0 ≤ r) (hr' : r ≠ ⊤) (q : EReal)
    (d1 d2 x1 x2 g1 g2 : ι → EReal) (htop : sx = ⊤ → r = 0 ∨ ∀ l, x1 l = 0 ∧ x2 l = 0)
    (d g x : EReal) (hx : (∀ l, x1 l = 0 ∧ x2 l = 0) → x = 0) :
    r * sy * (d * g - r * sx * (r * sx) * q * dot d1 d2 x1 x2 g1 g2 * x)
      = r * (sy * d * g - x * sx * r
          * ((∑ l, (sy * d1 l * g1 l * (x1 l * sx * r) + sy * d2 l * g2 l * (x2 l * sx * r))) * q)) := by
  rcases eq_or_ne sx ⊤ with rfl | hne
  · rcases htop rfl with rfl | h0
    · simp
    · have hx0 := hx h0
      subst hx0
      simp only [zero_mul, mul_zero, sub_zero]
      ac_rfl
  · have hk : 0 ≤ sx * r := mul_nonneg hsx hr
    have hk' : sx * r ≠ ⊤ := (EReal.mul_ne_top _ _).2 ⟨.inr hr, .inl hsx, .inl hne, .inr hr'⟩
    have hK : 0 ≤ sy * (sx * r) := mul_nonneg hsy hk
    have hK' : sy * (sx * r) ≠ ⊤ := (EReal.mul_ne_top _ _).2 ⟨.inr hk, .inl hsy, .inl hsy', .inr hk'⟩
    have hS : (∑ l, (sy * d1 l * g1 l * (x1 l * sx * r) + sy * d2 l * g2 l * (x2 l * sx * r)))
        = sy * (sx * r) * dot d1 d2 x1 x2 g1 g2 := by
      rw [dot, mul_sum hK hK']
      refine Finset.sum_congr rfl fun l _ => ?_
      rw [EReal.left_distrib_of_nonneg_of_ne_top hK hK']
      congr 1 <;> ac_rfl
    rw [hS, mul_assoc r sy, mul_sub hsy hsy', mul_sub hr hr', mul_sub hr hr']
    congr 1 <;> ac_rfl

/-- One term of the gain's gradient. -/
theorem dg_eq (sy sx r d x : EReal) : d * x * (r * sx * sy) = sy * d * (x * sx * r) := by ac_rfl

end Cert.RowAlgebra

end
-- ==== Proof.Row.lean ====
/-
  One row of 256 (a token and a head): the kernel's formulas and the reference's, as functions of the row's codes, its
  scales, the token's table rows and the gain, and the equations between them.
-/
module

public import proofs.«01_k».proof.Proof.RowAlgebra
public import proofs.«01_k».proof.Proof.PointBlock
public import Idealize.ShloMosaic.Lib.IdealHost

@[expose] public section

set_option maxRecDepth 16384

noncomputable section

namespace Cert.Row

open Idealize.ShloMosaic Cert.Rows Cert.RowAlgebra

variable (x y : Fin 256 → EReal) (c s : Fin 128 → EReal) (g : Fin 256 → EReal) (sx sy : EReal)

/-! ## The kernel's formulas -/

/-- The rotated codes of the gradient, before the scale. -/
def kD1 (l : Fin 128) : EReal := y (lo l) * c l + y (hi l) * s l
def kD2 (l : Fin 128) : EReal := y (hi l) * c l - y (lo l) * s l
/-- The reciprocal root of the mean square. -/
def kR : EReal := Ideal.rsqrt (ss (fun l => x (lo l)) (fun l => x (hi l)) * (sx * sx) * cQ + cE)
/-- The row's inner product. -/
def kDot : EReal := dot (kD1 y c s) (kD2 y c s) (fun l => x (lo l)) (fun l => x (hi l)) (fun l => g (lo l)) (fun l => g (hi l))
/-- The gradient of the row. -/
def kDx (n : Fin 256) : EReal :=
  if hn : n.val < 128 then
    kR x sx * sy * (kD1 y c s ⟨n.val, hn⟩ * g (lo ⟨n.val, hn⟩) - kR x sx * sx * (kR x sx * sx) * cQ * kDot x y c s g * x n)
  else
    kR x sx * sy * (kD2 y c s ⟨n.val - 128, by omega⟩ * g (hi ⟨n.val - 128, by omega⟩)
      - kR x sx * sx * (kR x sx * sx) * cQ * kDot x y c s g * x n)
/-- What the row adds to the gradient of the gain. -/
def kDg (n : Fin 256) : EReal :=
  if hn : n.val < 128 then kD1 y c s ⟨n.val, hn⟩ * x (lo ⟨n.val, hn⟩) * (kR x sx * sx * sy)
  else kD2 y c s ⟨n.val - 128, by omega⟩ * x (hi ⟨n.val - 128, by omega⟩) * (kR x sx * sx * sy)

/-! ## The reference's formulas -/

/-- The divisor of the means. -/
abbrev c256 : EReal := (FloatOps.ofBits .f32 0x43800000#32 : Ideal .f32)
/-- The initial value of the sums. -/
abbrev c0 : EReal := (FloatOps.ofBits .f32 0x00000000#32 : Ideal .f32)

/-- The rotated gradient. -/
def rDn (n : Fin 256) : EReal :=
  if hn : n.val < 128 then y (lo ⟨n.val, hn⟩) * sy * c ⟨n.val, hn⟩ + y (hi ⟨n.val, hn⟩) * sy * s ⟨n.val, hn⟩
  else y (hi ⟨n.val - 128, by omega⟩) * sy * c ⟨n.val - 128, by omega⟩
    - y (lo ⟨n.val - 128, by omega⟩) * sy * s ⟨n.val - 128, by omega⟩
def rR : EReal := Ideal.rsqrt (Ideal.div (c0 + ∑ k : Fin 256, x k * sx * (x k * sx)) c256 + cE)
/-- The normalised row. -/
def rXhat (n : Fin 256) : EReal := x n * sx * rR x sx
def rMean : EReal := Ideal.div (c0 + ∑ k : Fin 256, rDn y c s sy k * g k * rXhat x sx k) c256
def rDx (n : Fin 256) : EReal := rR x sx * (rDn y c s sy n * g n - rXhat x sx n * rMean x y c s g sx sy)
def rDg (n : Fin 256) : EReal := rDn y c s sy n * rXhat x sx n

/-! ## The constants -/

theorem c0_eq : c0 = 0 := Ideal.ofBits_zero_f32

theorem cQ_eq : cQ = ((1 / 256 : ℝ) : EReal) := by
  show Ideal.ofBits .f32 0x3B800000#32 = _
  simp [Ideal.ofBits, Ideal.ieee, -EReal.coe_mul]; norm_num

theorem c256_eq : c256 = ((256 : ℝ) : EReal) := by
  show Ideal.ofBits .f32 0x43800000#32 = _
  simp [Ideal.ofBits, Ideal.ieee, -EReal.coe_mul]; norm_num

theorem cE_pos : ∃ e : ℝ, 0 < e ∧ cE = (e : EReal) := by
  have h : ∃ e : ℝ, 0 < e ∧ Ideal.ofBits .f32 0x358637BD#32 = (e : EReal) := by
    simp only [Ideal.ofBits, Ideal.ieee]
    simp [-EReal.coe_mul]
  exact h

/-- A mean is a product with one over the number of terms. -/
theorem mean_eq (v : EReal) : Ideal.div v c256 = v * cQ := by
  rw [c256_eq, cQ_eq]
  unfold Ideal.div
  rw [if_neg (by norm_num), ← EReal.coe_inv]
  norm_num

/-! ## The equations -/

/-- A sum over a row, by its halves. -/
theorem sum_halves (f : Fin 256 → EReal) : ∑ k : Fin 256, f k = ∑ l : Fin 128, (f (lo l) + f (hi l)) := by
  rw [Finset.sum_add_distrib]
  exact Fin.sum_univ_add (a := 128) (b := 128) f

theorem lo_of {n : Fin 256} (hn : n.val < 128) : lo ⟨n.val, hn⟩ = n := rfl
theorem hi_of {n : Fin 256} (hn : ¬ n.val < 128) : hi ⟨n.val - 128, by omega⟩ = n := by
  apply Fin.ext; show 128 + (n.val - 128) = n.val; omega

theorem rR_eq : rR x sx = kR x sx := by
  unfold rR kR
  rw [mean_eq, c0_eq, zero_add, sum_halves, meanSquare]

theorem rDn_lo (hsy : 0 ≤ sy) (hsy' : sy ≠ ⊤) (l : Fin 128) : rDn y c s sy (lo l) = sy * kD1 y c s l := by
  unfold rDn kD1
  rw [dif_pos (show (lo l).val < 128 from l.isLt)]
  exact rot_add hsy hsy' _ _ _ _

theorem rDn_hi (hsy : 0 ≤ sy) (hsy' : sy ≠ ⊤) (l : Fin 128) : rDn y c s sy (hi l) = sy * kD2 y c s l := by
  have e : (⟨(hi l).val - 128, by omega⟩ : Fin 128) = l := Fin.ext (by show 128 + l.val - 128 = l.val; omega)
  unfold rDn kD2
  rw [dif_neg (show ¬ (hi l).val < 128 by show ¬ 128 + l.val < 128; omega), e]
  exact rot_sub hsy hsy' _ _ _ _

theorem kR_facts (hsx : 0 ≤ sx) : 0 ≤ kR x sx ∧ kR x sx ≠ ⊤ := by
  obtain ⟨e, he, hE⟩ := cE_pos
  unfold kR
  rw [hE]
  exact rsqrt_nonneg (mul_nonneg (mul_nonneg (ss_nonneg _ _) (mul_nonneg hsx hsx))
    (by rw [cQ_eq]; exact EReal.coe_nonneg.mpr (by norm_num))) he

theorem kR_top : sx = ⊤ → kR x sx = 0 ∨ ∀ l : Fin 128, x (lo l) = 0 ∧ x (hi l) = 0 := by
  rintro rfl
  obtain ⟨e, he, hE⟩ := cE_pos
  unfold kR
  rw [hE, cQ_eq]
  exact rsqrt_top (fun l : Fin 128 => x (lo l)) (fun l => x (hi l)) (by norm_num)

/-- THE GRADIENT OF A ROW, as the kernel computes it and as the reference does. -/
theorem kDx_eq (hsy : 0 ≤ sy) (hsy' : sy ≠ ⊤) (hsx : 0 ≤ sx) (n : Fin 256) : kDx x y c s g sx sy n = rDx x y c s g sx sy n := by
  obtain ⟨hr, hr'⟩ := kR_facts x sx hsx
  unfold rDx rMean rXhat
  rw [mean_eq, c0_eq, zero_add, sum_halves]
  simp only [rR_eq, rDn_lo y c s sy hsy hsy', rDn_hi y c s sy hsy hsy']
  unfold kDx kDot
  by_cases hn : n.val < 128
  · rw [dif_pos hn]
    have e := rDn_lo y c s sy hsy hsy' ⟨n.val, hn⟩
    rw [lo_of] at e
    rw [e]
    exact dx_eq hsy hsy' hsx hr hr' cQ (kD1 y c s) (kD2 y c s) _ _ (fun l => g (lo l)) (fun l => g (hi l)) (kR_top x sx) _ _ _
      (fun h => (h ⟨n.val, hn⟩).1)
  · rw [dif_neg hn]
    have e := rDn_hi y c s sy hsy hsy' ⟨n.val - 128, by omega⟩
    rw [hi_of hn] at e ⊢
    rw [e]
    exact dx_eq hsy hsy' hsx hr hr' cQ (kD1 y c s) (kD2 y c s) _ _ (fun l => g (lo l)) (fun l => g (hi l)) (kR_top x sx) _ _ _
      (fun h => by have := (h ⟨n.val - 128, by omega⟩).2; rwa [hi_of hn] at this)

/-- WHAT A ROW ADDS TO THE GRADIENT OF THE GAIN. -/
theorem kDg_eq (hsy : 0 ≤ sy) (hsy' : sy ≠ ⊤) (n : Fin 256) : kDg x y c s sx sy n = rDg x y c s sx sy n := by
  unfold rDg rXhat
  rw [rR_eq]
  unfold kDg
  by_cases hn : n.val < 128
  · rw [dif_pos hn]
    have e := rDn_lo y c s sy hsy hsy' ⟨n.val, hn⟩
    rw [lo_of] at e
    rw [e, lo_of]
    exact dg_eq _ _ _ _ _
  · rw [dif_neg hn]
    have e := rDn_hi y c s sy hsy hsy' ⟨n.val - 128, by omega⟩
    rw [hi_of hn] at e ⊢
    rw [e]
    exact dg_eq _ _ _ _ _

/-! ## The kernel's blocks, row by row -/

section Block

open Idealize.ShloMosaic.Pointwise Cert.KernelIdeal.Value

variable {H : ℕ} (X Y : (X4 H).Idx → EReal) (SX SY : (W3 H).Idx → EReal) (C S : T2.Idx → EReal) (G : X2.Idx → EReal)

theorem blockDx_row (t : Fin 128) (h : Fin H) (n : Fin 256) :
    blockDx X Y C S (gLo G) (gHi G) (rowA0 X SX SY) (rowA2 X SX) t h n
      = kDx (fun n => X (ix4 0 t h n)) (fun n => Y (ix4 0 t h n)) (fun l => C (ix2 t l)) (fun l => S (ix2 t l))
          (fun n => G (ix2 0 n)) (SX (ix3 0 h t)) (SY (ix3 0 h t)) n := rfl

theorem blockG1_row (h : Fin H) (l t : Fin 128) :
    blockG1 X Y C S (rowA1 X SX SY) h l t
      = kD1 (fun n => Y (ix4 0 t h n)) (fun l => C (ix2 t l)) (fun l => S (ix2 t l)) l * X (ix4 0 t h (lo l))
        * (kR (fun n => X (ix4 0 t h n)) (SX (ix3 0 h t)) * SX (ix3 0 h t) * SY (ix3 0 h t)) := rfl

theorem blockG2_row (h : Fin H) (l t : Fin 128) :
    blockG2 X Y C S (rowA1 X SX SY) h l t
      = kD2 (fun n => Y (ix4 0 t h n)) (fun l => C (ix2 t l)) (fun l => S (ix2 t l)) l * X (ix4 0 t h (hi l))
        * (kR (fun n => X (ix4 0 t h n)) (SX (ix3 0 h t)) * SX (ix3 0 h t) * SY (ix3 0 h t)) := rfl

/-- The gradient of the gain after a point: what it held, plus every row of the block. -/
theorem dgArr_row (old : X2.Idx → EReal) (n : Fin 256) :
    dgArr X Y C S (rowA1 X SX SY) old (ix2 0 n)
      = old (ix2 0 n) + ∑ h : Fin H, ∑ t : Fin 128,
          kDg (fun n => X (ix4 0 t h n)) (fun n => Y (ix4 0 t h n)) (fun l => C (ix2 t l)) (fun l => S (ix2 t l))
            (SX (ix3 0 h t)) (SY (ix3 0 h t)) n := by
  unfold kDg
  by_cases hn : n.val < 128
  · simp only [dif_pos hn]
    refine (dif_pos (show ((ix2 (0 : Fin 1) n : X2.Idx) 1).val < 128 from hn)).trans ?_
    rfl
  · simp only [dif_neg hn]
    refine (dif_neg (show ¬ ((ix2 (0 : Fin 1) n : X2.Idx) 1).val < 128 from hn)).trans ?_
    refine congrArg₂ (· + ·) (congrArg (fun k => old (ix2 0 k)) (hi_of hn)) rfl

end Block

end Cert.Row

end
-- ==== Proof.Angles.lean ====
/-
  The cosine and sine of an angle, as both programs compute them: the nearest number of quarter turns, a remainder, two
  polynomials on the remainder, and a choice between them by the quadrant. The kernel reads the quadrant from two bits
  of the count; the reference compares the count modulo four.
-/
module

public import Idealize.ShloMosaic.PureOps.Ideal.Laws

@[expose] public section

noncomputable section

namespace Cert.Angles

open Idealize.ShloMosaic

/-- A constant of the programs, by its word. -/
abbrev k (b : BitVec 32) : EReal := (FloatOps.ofBits .f32 b : Ideal .f32)

/-- The angle of a position at a frequency. -/
def angle (p : BitVec 32) (f : EReal) : EReal := (FloatOps.sitofp .f32 p : Ideal .f32) * f
/-- Its quarter turns, the remainder, and the polynomials on it. -/
def turns (a : EReal) : EReal := Ideal.liftRound Ideal.roundHalfEven (a * k 0x3F22F983#32)
def rem (a : EReal) : EReal := a - turns a * k 0x3FC90000#32 - turns a * k 0x39FDA000#32 - turns a * k 0x33A22169#32
def sinP (x : EReal) : EReal :=
  x + x * (x * x) * (k 0xBE2AAAA3#32 + x * x * (k 0x3C08839E#32 + x * x * k 0xB94CA1F9#32))
def cosP (x : EReal) : EReal :=
  k 0x3F800000#32 - k 0x3F000000#32 * (x * x)
    + x * x * (x * x) * (k 0x3D2AAAA5#32 + x * x * (k 0xBAB6061A#32 + x * x * k 0x37CCF5CE#32))
def quadrant (a : EReal) : BitVec 32 := FloatOps.fptosi (F := Ideal) (φ := .f32) 32 (turns a)

/-- The kernel's choice. -/
def cosK (a : EReal) : EReal :=
  let w := Scalar.select (IntOp.cmpi .eq (IntOp.andi (quadrant a) 1#32) 1#32) (sinP (rem a)) (cosP (rem a))
  Scalar.select (IntOp.cmpi .eq (IntOp.andi (IntOp.addi (quadrant a) 1#32) 2#32) 2#32) (0 - w) w
def sinK (a : EReal) : EReal :=
  let w := Scalar.select (IntOp.cmpi .eq (IntOp.andi (quadrant a) 1#32) 1#32) (cosP (rem a)) (sinP (rem a))
  Scalar.select (IntOp.cmpi .eq (IntOp.andi (quadrant a) 2#32) 2#32) (0 - w) w

/-- The reference's choice. -/
def cosR (a : EReal) : EReal :=
  let q := IntOp.andi (quadrant a) 3#32
  Scalar.select (IntOp.cmpi .eq q 0#32) (cosP (rem a)) (Scalar.select (IntOp.cmpi .eq q 1#32) (-sinP (rem a))
    (Scalar.select (IntOp.cmpi .eq q 2#32) (-cosP (rem a)) (sinP (rem a))))
def sinR (a : EReal) : EReal :=
  let q := IntOp.andi (quadrant a) 3#32
  Scalar.select (IntOp.cmpi .eq q 0#32) (sinP (rem a)) (Scalar.select (IntOp.cmpi .eq q 1#32) (cosP (rem a))
    (Scalar.select (IntOp.cmpi .eq q 2#32) (-sinP (rem a)) (-cosP (rem a))))

/-- A mask below four sees the two low bits only. -/
theorem and_low (x m : BitVec 32) (hm : (m.setWidth 2).setWidth 32 = m) :
    x &&& m = ((x.setWidth 2) &&& (m.setWidth 2)).setWidth 32 := by
  conv_lhs => rw [← hm]
  ext i hi
  simp only [BitVec.getElem_and, BitVec.getElem_setWidth, BitVec.getLsbD_setWidth, BitVec.getLsbD_and]
  by_cases h : i < 2
  · simp [h, hi]
  · simp [h]

theorem low_add (q : BitVec 32) : (q + 1#32).setWidth 2 = q.setWidth 2 + 1#2 :=
  BitVec.setWidth_add _ _ (by decide)

theorem cos_eq (a : EReal) : cosK a = cosR a := by
  unfold cosK cosR
  simp only [IntOp.andi, IntOp.addi, IntOp.cmpi, Scalar.select, zero_sub]
  generalize quadrant a = q
  simp only [and_low q 1#32 (by decide), and_low (q + 1#32) 2#32 (by decide), and_low q 3#32 (by decide), low_add]
  generalize q.setWidth 2 = r
  generalize sinP (rem a) = s
  generalize cosP (rem a) = c
  obtain rfl | rfl | rfl | rfl : r = 0#2 ∨ r = 1#2 ∨ r = 2#2 ∨ r = 3#2 := by revert r; decide
  all_goals simp

theorem sin_eq (a : EReal) : sinK a = sinR a := by
  unfold sinK sinR
  simp only [IntOp.andi, IntOp.cmpi, Scalar.select, zero_sub]
  generalize quadrant a = q
  simp only [and_low q 1#32 (by decide), and_low q 2#32 (by decide), and_low q 3#32 (by decide)]
  generalize q.setWidth 2 = r
  generalize sinP (rem a) = s
  generalize cosP (rem a) = c
  obtain rfl | rfl | rfl | rfl : r = 0#2 ∨ r = 1#2 ∨ r = 2#2 ∨ r = 3#2 := by revert r; decide
  all_goals simp

end Cert.Angles

end
-- ==== Proof.Tables.lean ====
/-
  The tables of cosines and sines, read at a token and a lane: the kernel's block.
-/
module

public import proofs.«01_k».proof.Proof.PointBlock
public import proofs.«01_k».proof.Proof.Angles

@[expose] public section

set_option maxRecDepth 65536

noncomputable section

open Idealize.ShloMosaic Idealize.ShloMosaic.TcCoe Idealize.SL.Sem Idealize.ShloMosaic.Pointwise

namespace Cert.KernelIdeal.Value

open Cert.KernelIdeal Cert.KernelIdeal.Gen Cert.Rows Cert.Angles

variable (x11 : Vec Ideal S1x1x128 .i32) (x10 : Vec Ideal S1x128 .f32) (t l : Fin 128)

theorem pay256_apply : k0_pay256 (F := Ideal) x11 x10 (ix2 t l) = angle (x11 (ix3 0 0 t)) (x10 (ix2 0 l)) := by
  pointwise [k0_pay256, angle]

theorem pay257_apply : k0_pay257 (F := Ideal) x11 x10 (ix2 t l) = turns (k0_pay256 (F := Ideal) x11 x10 (ix2 t l)) := rfl
theorem pay258_apply : k0_pay258 (F := Ideal) x11 x10 (ix2 t l) = rem (k0_pay256 (F := Ideal) x11 x10 (ix2 t l)) := rfl
theorem pay261_apply : k0_pay261 (F := Ideal) x11 x10 (ix2 t l) = sinP (rem (k0_pay256 (F := Ideal) x11 x10 (ix2 t l))) := rfl
theorem pay263_apply : k0_pay263 (F := Ideal) (k0_pay260 x11 x10) (k0_pay262 x11 x10) (ix2 t l)
    = cosP (rem (k0_pay256 (F := Ideal) x11 x10 (ix2 t l))) := rfl
theorem pay259_apply : k0_pay259 (F := Ideal) x11 x10 (ix2 t l) = quadrant (k0_pay256 (F := Ideal) x11 x10 (ix2 t l)) := rfl

theorem tabC_apply : tabC x11 x10 (ix2 t l) = cosK (angle (x11 (ix3 0 0 t)) (x10 (ix2 0 l))) := by
  rw [← pay256_apply]
  unfold tabC k0_pay265
  rw [shapeCast_self]
  unfold cosK
  rw [← Ideal.ofBits_zero_f32]
  rfl

theorem tabS_apply : tabS x11 x10 (ix2 t l) = sinK (angle (x11 (ix3 0 0 t)) (x10 (ix2 0 l))) := by
  rw [← pay256_apply]
  unfold tabS k0_pay266
  rw [shapeCast_self]
  unfold sinK
  rw [← Ideal.ofBits_zero_f32]
  rfl

end Cert.KernelIdeal.Value

end
-- ==== Proof.Points.lean ====
/-
  What each grid point leaves in the outputs' blocks, and what the two gain gradients hold after the last one: the sum,
  over every point, of every row of the point's block.
-/
module

public import proofs.«01_k».proof.Proof.PointOut
public import proofs.«01_k».proof.Proof.Row
public import proofs.«01_k».proof.Proof.Tables
public import Idealize.ShloMosaic.Lib.Pipeline.ValueKit.Acc

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows Cert.Row Cert.Angles

variable (m : (ℓ : Loc nD τ sig) → Buf (Elt Ideal) ℓ)

/-- The references the body is handed at point `t`. -/
abbrev refsAt (t : Fin cfg0.N) : Refs :=
  {
    arg2 := ms0_0 t, harg2 := hs0_0 t,
    arg3 := ms0_1 t, harg3 := hs0_1 t,
    arg4 := ms0_2 t, harg4 := hs0_2 t,
    arg5 := ms0_3 t, harg5 := hs0_3 t,
    arg6 := ms0_4 t, harg6 := hs0_4 t,
    arg7 := ms0_5 t, harg7 := hs0_5 t,
    arg8 := ms0_6 t, harg8 := hs0_6 t,
    arg9 := ms0_7 t, harg9 := hs0_7 t,
    arg10 := ms0_8 t, harg10 := hs0_8 t,
    arg11 := ms0_9 t, harg11 := hs0_9 t,
    arg12 := ms0_10 t, harg12 := hs0_10 t,
    arg13 := ms0_11 t, harg13 := hs0_11 t,
    arg14 := ms0_12 t, harg14 := hs0_12 t,
    arg15 := ms0_13 t, harg15 := hs0_13 t,
    arg16 := ms0_14 t, harg16 := hs0_14 t,
    arg17 := ms0_15 t, harg17 := hs0_15 t,
    arg18 := scM0_0, harg18 := Memref.isWhole_whole _,
    arg19 := scM0_1, harg19 := Memref.isWhole_whole _,
    arg20 := scM0_2, harg20 := Memref.isWhole_whole _ }

/-! The input blocks at point `t`. -/

abbrev blk0 (c : Dev nD) (t : Fin cfg0.N) : (X4 16).Idx → EReal := iblk m c 0 t
abbrev blk1 (c : Dev nD) (t : Fin cfg0.N) : (W3 16).Idx → EReal := iblk m c 1 t
abbrev blk2 (c : Dev nD) (t : Fin cfg0.N) : (X4 8).Idx → EReal := iblk m c 2 t
abbrev blk3 (c : Dev nD) (t : Fin cfg0.N) : (W3 8).Idx → EReal := iblk m c 3 t
abbrev blk4 (c : Dev nD) (t : Fin cfg0.N) : (X4 16).Idx → EReal := iblk m c 4 t
abbrev blk5 (c : Dev nD) (t : Fin cfg0.N) : (W3 16).Idx → EReal := iblk m c 5 t
abbrev blk6 (c : Dev nD) (t : Fin cfg0.N) : (X4 8).Idx → EReal := iblk m c 6 t
abbrev blk7 (c : Dev nD) (t : Fin cfg0.N) : (W3 8).Idx → EReal := iblk m c 7 t
abbrev blk8 (c : Dev nD) (t : Fin cfg0.N) : X2.Idx → EReal := iblk m c 8 t
abbrev blk9 (c : Dev nD) (t : Fin cfg0.N) : X2.Idx → EReal := iblk m c 9 t
abbrev blk10 (c : Dev nD) (t : Fin cfg0.N) : Vec Ideal S1x128 .f32 := iblk m c 10 t
abbrev blk11 (c : Dev nD) (t : Fin cfg0.N) : Vec Ideal S1x1x128 .i32 := iblk m c 11 t

/-! ## The query outputs -/

theorem after12 (c : Dev nD) (t : Fin cfg0.N) :
    (outsAt0 m c t.val t.isLt).1 = dxBlock (blk4 m c t) (blk0 m c t) (blk5 m c t) (blk1 m c t) (blk8 m c t) (blk11 m c t) (blk10 m c t) := by
  by_cases h0 : t.val % 256 = 0
  · rw [outsAt0_A m c t h0]
    exact out_A_12 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)
  · rw [outsAt0_B m c t h0]
    exact out_B_12 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))

theorem after14_A (c : Dev nD) (t : Fin cfg0.N) (h0 : t.val % 256 = 0) :
    (outsAt0 m c t.val t.isLt).2.2.1
      = dgBlock (blk4 m c t) (blk0 m c t) (blk5 m c t) (blk1 m c t) (blk11 m c t) (blk10 m c t) (fun _ => 0) := by
  rw [outsAt0_A m c t h0]
  exact out_A_14 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)

theorem after14_B (c : Dev nD) (t : Fin cfg0.N) (h0 : ¬t.val % 256 = 0) :
    (outsAt0 m c t.val t.isLt).2.2.1
      = dgBlock (blk4 m c t) (blk0 m c t) (blk5 m c t) (blk1 m c t) (blk11 m c t) (blk10 m c t)
          (outsAt0 m c (t.val - 1) (Nat.lt_of_le_of_lt (Nat.sub_le _ _) t.isLt)).2.2.1 := by
  rw [outsAt0_B m c t h0]
  exact out_B_14 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))

/-- The gradient of row `(t, h)` of point `p`'s block. -/
theorem after12_apply (c : Dev nD) (p : Fin cfg0.N) (t : Fin 128) (h : Fin 16) (n : Fin 256) :
    (outsAt0 m c p.val p.isLt).1 (ix4 0 t h n)
      = kDx (fun n => blk4 m c p (ix4 0 t h n)) (fun n => blk0 m c p (ix4 0 t h n))
          (fun l => cosK (angle (blk11 m c p (ix3 0 0 t)) (blk10 m c p (ix2 0 l))))
          (fun l => sinK (angle (blk11 m c p (ix3 0 0 t)) (blk10 m c p (ix2 0 l))))
          (fun n => blk8 m c p (ix2 0 n)) (blk5 m c p (ix3 0 h t)) (blk1 m c p (ix3 0 h t)) n := by
  rw [after12]
  refine (blockDx_row (blk4 m c p) (blk0 m c p) (blk5 m c p) (blk1 m c p) (tabC (blk11 m c p) (blk10 m c p))
    (tabS (blk11 m c p) (blk10 m c p)) (blk8 m c p) t h n).trans ?_
  simp only [tabC_apply, tabS_apply]

/-- What point `p` adds to the gradient of the gain. -/
def term14 (c : Dev nD) (p : Fin cfg0.N) (n : Fin 256) : EReal :=
  ∑ h : Fin 16, ∑ t : Fin 128,
    kDg (fun n => blk4 m c p (ix4 0 t h n)) (fun n => blk0 m c p (ix4 0 t h n))
      (fun l => cosK (angle (blk11 m c p (ix3 0 0 t)) (blk10 m c p (ix2 0 l))))
      (fun l => sinK (angle (blk11 m c p (ix3 0 0 t)) (blk10 m c p (ix2 0 l))))
      (blk5 m c p (ix3 0 h t)) (blk1 m c p (ix3 0 h t)) n

theorem step14 (c : Dev nD) (p : Fin cfg0.N) (old : X2.Idx → EReal) (n : Fin 256) :
    dgBlock (blk4 m c p) (blk0 m c p) (blk5 m c p) (blk1 m c p) (blk11 m c p) (blk10 m c p) old (ix2 0 n)
      = old (ix2 0 n) + term14 m c p n := by
  refine (dgArr_row ..).trans ?_
  unfold term14
  simp only [tabC_apply, tabS_apply]

/-- After the last point: every point's part. -/
theorem after14_last (c : Dev nD) (t : Fin cfg0.N) (ht : t.val + 1 = cfg0.N) (n : Fin 256) :
    (outsAt0 m c t.val t.isLt).2.2.1 (ix2 0 n) = ∑ p : Fin cfg0.N, term14 m c p n := by
  have := Pipeline.eq_sum_fin_of_reset_step_apply_last (N := cfg0.N) (M := EReal)
    (fun k hk (n : Fin 256) => (outsAt0 m c k hk).2.2.1 (ix2 0 n)) 256 (fun _ => 0) (term14 m c)
    (fun t h n => by
      show (outsAt0 m c t.val t.isLt).2.2.1 (ix2 0 n) = _
      rw [after14_A m c t h, step14])
    (fun t h n => by
      show (outsAt0 m c t.val t.isLt).2.2.1 (ix2 0 n) = _
      rw [after14_B m c t h, step14])
    (le_of_eq N_0) t ht n
  rwa [zero_add] at this

/-! ## The key outputs -/

theorem after13 (c : Dev nD) (t : Fin cfg0.N) :
    (outsAt0 m c t.val t.isLt).2.1 = dxBlock (blk6 m c t) (blk2 m c t) (blk7 m c t) (blk3 m c t) (blk9 m c t) (blk11 m c t) (blk10 m c t) := by
  by_cases h0 : t.val % 256 = 0
  · rw [outsAt0_A m c t h0]
    exact out_A_13 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)
  · rw [outsAt0_B m c t h0]
    exact out_B_13 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))

theorem after15_A (c : Dev nD) (t : Fin cfg0.N) (h0 : t.val % 256 = 0) :
    (outsAt0 m c t.val t.isLt).2.2.2
      = dgBlock (blk6 m c t) (blk2 m c t) (blk7 m c t) (blk3 m c t) (blk11 m c t) (blk10 m c t) (fun _ => 0) := by
  rw [outsAt0_A m c t h0]
  exact out_A_15 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)

theorem after15_B (c : Dev nD) (t : Fin cfg0.N) (h0 : ¬t.val % 256 = 0) :
    (outsAt0 m c t.val t.isLt).2.2.2
      = dgBlock (blk6 m c t) (blk2 m c t) (blk7 m c t) (blk3 m c t) (blk11 m c t) (blk10 m c t)
          (outsAt0 m c (t.val - 1) (Nat.lt_of_le_of_lt (Nat.sub_le _ _) t.isLt)).2.2.2 := by
  rw [outsAt0_B m c t h0]
  exact out_B_15 c (grid0.coords t) (refsAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))

/-- The gradient of row `(t, h)` of point `p`'s block. -/
theorem after13_apply (c : Dev nD) (p : Fin cfg0.N) (t : Fin 128) (h : Fin 8) (n : Fin 256) :
    (outsAt0 m c p.val p.isLt).2.1 (ix4 0 t h n)
      = kDx (fun n => blk6 m c p (ix4 0 t h n)) (fun n => blk2 m c p (ix4 0 t h n))
          (fun l => cosK (angle (blk11 m c p (ix3 0 0 t)) (blk10 m c p (ix2 0 l))))
          (fun l => sinK (angle (blk11 m c p (ix3 0 0 t)) (blk10 m c p (ix2 0 l))))
          (fun n => blk9 m c p (ix2 0 n)) (blk7 m c p (ix3 0 h t)) (blk3 m c p (ix3 0 h t)) n := by
  rw [after13]
  refine (blockDx_row (blk6 m c p) (blk2 m c p) (blk7 m c p) (blk3 m c p) (tabC (blk11 m c p) (blk10 m c p))
    (tabS (blk11 m c p) (blk10 m c p)) (blk9 m c p) t h n).trans ?_
  simp only [tabC_apply, tabS_apply]

/-- What point `p` adds to the gradient of the gain. -/
def term15 (c : Dev nD) (p : Fin cfg0.N) (n : Fin 256) : EReal :=
  ∑ h : Fin 8, ∑ t : Fin 128,
    kDg (fun n => blk6 m c p (ix4 0 t h n)) (fun n => blk2 m c p (ix4 0 t h n))
      (fun l => cosK (angle (blk11 m c p (ix3 0 0 t)) (blk10 m c p (ix2 0 l))))
      (fun l => sinK (angle (blk11 m c p (ix3 0 0 t)) (blk10 m c p (ix2 0 l))))
      (blk7 m c p (ix3 0 h t)) (blk3 m c p (ix3 0 h t)) n

theorem step15 (c : Dev nD) (p : Fin cfg0.N) (old : X2.Idx → EReal) (n : Fin 256) :
    dgBlock (blk6 m c p) (blk2 m c p) (blk7 m c p) (blk3 m c p) (blk11 m c p) (blk10 m c p) old (ix2 0 n)
      = old (ix2 0 n) + term15 m c p n := by
  refine (dgArr_row ..).trans ?_
  unfold term15
  simp only [tabC_apply, tabS_apply]

/-- After the last point: every point's part. -/
theorem after15_last (c : Dev nD) (t : Fin cfg0.N) (ht : t.val + 1 = cfg0.N) (n : Fin 256) :
    (outsAt0 m c t.val t.isLt).2.2.2 (ix2 0 n) = ∑ p : Fin cfg0.N, term15 m c p n := by
  have := Pipeline.eq_sum_fin_of_reset_step_apply_last (N := cfg0.N) (M := EReal)
    (fun k hk (n : Fin 256) => (outsAt0 m c k hk).2.2.2 (ix2 0 n)) 256 (fun _ => 0) (term15 m c)
    (fun t h n => by
      show (outsAt0 m c t.val t.isLt).2.2.2 (ix2 0 n) = _
      rw [after15_A m c t h, step15])
    (fun t h n => by
      show (outsAt0 m c t.val t.isLt).2.2.2 (ix2 0 n) = _
      rw [after15_B m c t h, step15])
    (le_of_eq N_0) t ht n
  rwa [zero_add] at this

end Cert.KernelIdeal.Value

end
-- ==== Proof.Geometry.lean ====
/-
  Where a grid point's blocks lie in the arrays: point `(b, p)` holds tokens `128 p … 128 p + 127` of batch `b`. Each
  input block read at coordinates, down to the arguments.
-/
module

public import proofs.«01_k».proof.Proof.Points
public import Idealize.ShloMosaic.Lib.Pipeline.ValueKit.Geometry
public import Idealize.ShloMosaic.Lib.ValueIdx
public import Idealize.ShloMosaic.Lib.Pointwise

@[expose] public section

set_option maxRecDepth 65536

noncomputable section

namespace Cert.KernelIdeal.Value

open Idealize.ShloMosaic Idealize.ShloMosaic.TcCoe Idealize.SL.Sem Idealize.ShloMosaic.Pointwise
open Cert.KernelIdeal Cert.KernelIdeal.Gen Cert.Rows Cert.Row Cert.Angles

variable (m : (ℓ : Loc nD τ sig) → Buf (Elt Ideal) ℓ)

/-! ## The arguments, as arrays -/

abbrev arr0 (c : Dev nD) : S2x16384x16x256.Idx → EReal := m ((c : Thread nD τ).loc main_arg0)
abbrev arr1 (c : Dev nD) : S2x16384x16.Idx → EReal := m ((c : Thread nD τ).loc main_arg1)
abbrev arr2 (c : Dev nD) : S2x16384x8x256.Idx → EReal := m ((c : Thread nD τ).loc main_arg2)
abbrev arr3 (c : Dev nD) : S2x16384x8.Idx → EReal := m ((c : Thread nD τ).loc main_arg3)
abbrev arr4 (c : Dev nD) : S2x16384x16x256.Idx → EReal := m ((c : Thread nD τ).loc main_arg4)
abbrev arr5 (c : Dev nD) : S2x16384x16.Idx → EReal := m ((c : Thread nD τ).loc main_arg5)
abbrev arr6 (c : Dev nD) : S2x16384x8x256.Idx → EReal := m ((c : Thread nD τ).loc main_arg6)
abbrev arr7 (c : Dev nD) : S2x16384x8.Idx → EReal := m ((c : Thread nD τ).loc main_arg7)
abbrev arr8 (c : Dev nD) : S256.Idx → EReal := m ((c : Thread nD τ).loc main_arg8)
abbrev arr9 (c : Dev nD) : S256.Idx → EReal := m ((c : Thread nD τ).loc main_arg9)
abbrev arr10 (c : Dev nD) : S2x16384.Idx → BitVec 32 := m ((c : Thread nD τ).loc main_arg10)

/-- The frequencies, from the host operations before the region. -/
def kFreqs : FVec Ideal S128 .f32 :=
  Host.powf (broadcastInDim S128 ![] bcast_S_S128 (constant S_ .f32 0x49742400#32 : FVec Ideal S_ .f32))
    (Host.negf (Host.divf (mulf (broadcastInDim S128 ![] bcast_S_S128 (constant S_ .f32 0x40000000#32 : FVec Ideal S_ .f32))
      (sitofp .f32 (iotaInDim S128 32 0))) (broadcastInDim S128 ![] bcast_S_S128 (constant S_ .f32 0x43800000#32 : FVec Ideal S_ .f32))))
def kFreq (l : Fin 128) : EReal := kFreqs (ix1 l)

/-! ## The host operations before the region, at an index -/

theorem V8_apply (c : Dev nD) (l : Fin 128) : (V m c main_v8 : S1x128.Idx → EReal) (ix2 0 l) = kFreq l := by
  have e : (V m c main_v8 : S1x128.Idx → EReal) = broadcastInDim S1x128 ![1] bcast_S128_S1x128_1 kFreqs := by
    show StableHlo.after hostOps0 _ _ = _
    after_results
    rfl
  rw [e]
  unfold kFreq
  generalize kFreqs = f
  pointwise []

theorem V9_apply (c : Dev nD) (b : Fin 2) (h : Fin 16) (s : Fin 16384) :
    (V m c main_v9 : S2x16x16384.Idx → EReal) (ix3 b h s) = arr1 m c (ix3 b s h) := by
  have e : (V m c main_v9 : S2x16x16384.Idx → EReal)
      = transpose S2x16x16384 [0, 2, 1] (arr1 m c) transposes_S2x16384x16_S2x16x16384_0_2_1 := by
    show StableHlo.after hostOps0 _ _ = _
    after_results
  rw [e]
  pointwise []

theorem V10_apply (c : Dev nD) (b : Fin 2) (h : Fin 8) (s : Fin 16384) :
    (V m c main_v10 : S2x8x16384.Idx → EReal) (ix3 b h s) = arr3 m c (ix3 b s h) := by
  have e : (V m c main_v10 : S2x8x16384.Idx → EReal)
      = transpose S2x8x16384 [0, 2, 1] (arr3 m c) transposes_S2x16384x8_S2x8x16384_0_2_1 := by
    show StableHlo.after hostOps0 _ _ = _
    after_results
  rw [e]
  pointwise []

theorem V11_apply (c : Dev nD) (b : Fin 2) (h : Fin 16) (s : Fin 16384) :
    (V m c main_v11 : S2x16x16384.Idx → EReal) (ix3 b h s) = arr5 m c (ix3 b s h) := by
  have e : (V m c main_v11 : S2x16x16384.Idx → EReal)
      = transpose S2x16x16384 [0, 2, 1] (arr5 m c) transposes_S2x16384x16_S2x16x16384_0_2_1 := by
    show StableHlo.after hostOps0 _ _ = _
    after_results
  rw [e]
  pointwise []

theorem V12_apply (c : Dev nD) (b : Fin 2) (h : Fin 8) (s : Fin 16384) :
    (V m c main_v12 : S2x8x16384.Idx → EReal) (ix3 b h s) = arr7 m c (ix3 b s h) := by
  have e : (V m c main_v12 : S2x8x16384.Idx → EReal)
      = transpose S2x8x16384 [0, 2, 1] (arr7 m c) transposes_S2x16384x8_S2x8x16384_0_2_1 := by
    show StableHlo.after hostOps0 _ _ = _
    after_results
  rw [e]
  pointwise []

theorem V13_apply (c : Dev nD) (n : Fin 256) : (V m c main_v13 : S1x256.Idx → EReal) (ix2 0 n) = arr8 m c (ix1 n) := by
  have e : (V m c main_v13 : S1x256.Idx → EReal) = broadcastInDim S1x256 ![1] bcast_S256_S1x256_1 (arr8 m c) := by
    show StableHlo.after hostOps0 _ _ = _
    after_results
  rw [e]
  pointwise []

theorem V14_apply (c : Dev nD) (n : Fin 256) : (V m c main_v14 : S1x256.Idx → EReal) (ix2 0 n) = arr9 m c (ix1 n) := by
  have e : (V m c main_v14 : S1x256.Idx → EReal) = broadcastInDim S1x256 ![1] bcast_S256_S1x256_1 (arr9 m c) := by
    show StableHlo.after hostOps0 _ _ = _
    after_results
  rw [e]
  pointwise []

theorem V15_apply (c : Dev nD) (b : Fin 2) (s : Fin 16384) :
    (V m c main_v15 : S2x1x16384.Idx → BitVec 32) (ix3 b 0 s) = arr10 m c (ix2 b s) := by
  have e : (V m c main_v15 : S2x1x16384.Idx → BitVec 32) = broadcastInDim S2x1x16384 ![0, 2] bcast_S2x16384_S2x1x16384_0_2 (arr10 m c) := by
    show StableHlo.after hostOps0 _ _ = _
    after_results
  rw [e]
  pointwise []

/-! ## The points -/

/-- The batch, and the position of token `u` of the block, of point `t`. -/
def bOf (t : Fin cfg0.N) : Fin 2 := grid0.coords t 0
def sOf (t : Fin cfg0.N) (u : Fin 128) : Fin 16384 :=
  ⟨128 * (grid0.coords t 1).val + u.val, by
    have : (grid0.coords t 1).val < 128 := (grid0.coords t 1).isLt
    omega⟩

theorem index0 : ∀ t : Fin grid0.N, win0_0.index t = ![(grid0.coords t 0).val, (grid0.coords t 1).val, 0, 0] := by decide +kernel
theorem index1 : ∀ t : Fin grid0.N, win0_1.index t = ![(grid0.coords t 0).val, 0, (grid0.coords t 1).val] := by decide +kernel
theorem index2 : ∀ t : Fin grid0.N, win0_2.index t = ![(grid0.coords t 0).val, (grid0.coords t 1).val, 0, 0] := by decide +kernel
theorem index3 : ∀ t : Fin grid0.N, win0_3.index t = ![(grid0.coords t 0).val, 0, (grid0.coords t 1).val] := by decide +kernel
theorem index4 : ∀ t : Fin grid0.N, win0_4.index t = ![(grid0.coords t 0).val, (grid0.coords t 1).val, 0, 0] := by decide +kernel
theorem index5 : ∀ t : Fin grid0.N, win0_5.index t = ![(grid0.coords t 0).val, 0, (grid0.coords t 1).val] := by decide +kernel
theorem index6 : ∀ t : Fin grid0.N, win0_6.index t = ![(grid0.coords t 0).val, (grid0.coords t 1).val, 0, 0] := by decide +kernel
theorem index7 : ∀ t : Fin grid0.N, win0_7.index t = ![(grid0.coords t 0).val, 0, (grid0.coords t 1).val] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![(grid0.coords t 0).val, 0, (grid0.coords t 1).val] := by decide +kernel
theorem index12 : ∀ t : Fin grid0.N, win0_12.index t = ![(grid0.coords t 0).val, (grid0.coords t 1).val, 0, 0] := by decide +kernel
theorem index13 : ∀ t : Fin grid0.N, win0_13.index t = ![(grid0.coords t 0).val, (grid0.coords t 1).val, 0, 0] := by decide +kernel
theorem index14 : ∀ t : Fin grid0.N, win0_14.index t = ![0, 0] := by decide +kernel
theorem index15 : ∀ t : Fin grid0.N, win0_15.index t = ![0, 0] := by decide +kernel

theorem blk0_apply (c : Dev nD) (t : Fin cfg0.N) (u : Fin 128) (h : Fin 16) (n : Fin 256) :
    blk0 m c t (ix4 0 u h n) = arr0 m c (ix4 (bOf t) (sOf t u) h n) := by
  have e := index0 t
  show iblk m c 0 t (ix4 0 u h n) = _
  blk_simp [iblk]
  refine (congrFun (V_main_arg0 m c) _).trans (congrArg (arr0 m c) ?_)
  blk_ext [e, bOf, sOf]

theorem blk2_apply (c : Dev nD) (t : Fin cfg0.N) (u : Fin 128) (h : Fin 8) (n : Fin 256) :
    blk2 m c t (ix4 0 u h n) = arr2 m c (ix4 (bOf t) (sOf t u) h n) := by
  have e := index2 t
  show iblk m c 2 t (ix4 0 u h n) = _
  blk_simp [iblk]
  refine (congrFun (V_main_arg2 m c) _).trans (congrArg (arr2 m c) ?_)
  blk_ext [e, bOf, sOf]

theorem blk4_apply (c : Dev nD) (t : Fin cfg0.N) (u : Fin 128) (h : Fin 16) (n : Fin 256) :
    blk4 m c t (ix4 0 u h n) = arr4 m c (ix4 (bOf t) (sOf t u) h n) := by
  have e := index4 t
  show iblk m c 4 t (ix4 0 u h n) = _
  blk_simp [iblk]
  refine (congrFun (V_main_arg4 m c) _).trans (congrArg (arr4 m c) ?_)
  blk_ext [e, bOf, sOf]

theorem blk6_apply (c : Dev nD) (t : Fin cfg0.N) (u : Fin 128) (h : Fin 8) (n : Fin 256) :
    blk6 m c t (ix4 0 u h n) = arr6 m c (ix4 (bOf t) (sOf t u) h n) := by
  have e := index6 t
  show iblk m c 6 t (ix4 0 u h n) = _
  blk_simp [iblk]
  refine (congrFun (V_main_arg6 m c) _).trans (congrArg (arr6 m c) ?_)
  blk_ext [e, bOf, sOf]

theorem blk1_apply (c : Dev nD) (t : Fin cfg0.N) (h : Fin 16) (u : Fin 128) :
    blk1 m c t (ix3 0 h u) = arr1 m c (ix3 (bOf t) (sOf t u) h) := by
  have e := index1 t
  rw [← V9_apply]
  show iblk m c 1 t (ix3 0 h u) = _
  blk_simp [iblk]
  refine congrArg (V m c main_v9 : S2x16x16384.Idx → EReal) ?_
  blk_ext [e, bOf, sOf]

theorem blk3_apply (c : Dev nD) (t : Fin cfg0.N) (h : Fin 8) (u : Fin 128) :
    blk3 m c t (ix3 0 h u) = arr3 m c (ix3 (bOf t) (sOf t u) h) := by
  have e := index3 t
  rw [← V10_apply]
  show iblk m c 3 t (ix3 0 h u) = _
  blk_simp [iblk]
  refine congrArg (V m c main_v10 : S2x8x16384.Idx → EReal) ?_
  blk_ext [e, bOf, sOf]

theorem blk5_apply (c : Dev nD) (t : Fin cfg0.N) (h : Fin 16) (u : Fin 128) :
    blk5 m c t (ix3 0 h u) = arr5 m c (ix3 (bOf t) (sOf t u) h) := by
  have e := index5 t
  rw [← V11_apply]
  show iblk m c 5 t (ix3 0 h u) = _
  blk_simp [iblk]
  refine congrArg (V m c main_v11 : S2x16x16384.Idx → EReal) ?_
  blk_ext [e, bOf, sOf]

theorem blk7_apply (c : Dev nD) (t : Fin cfg0.N) (h : Fin 8) (u : Fin 128) :
    blk7 m c t (ix3 0 h u) = arr7 m c (ix3 (bOf t) (sOf t u) h) := by
  have e := index7 t
  rw [← V12_apply]
  show iblk m c 7 t (ix3 0 h u) = _
  blk_simp [iblk]
  refine congrArg (V m c main_v12 : S2x8x16384.Idx → EReal) ?_
  blk_ext [e, bOf, sOf]

theorem blk8_apply (c : Dev nD) (t : Fin cfg0.N) (n : Fin 256) : blk8 m c t (ix2 0 n) = arr8 m c (ix1 n) := by
  have e := index8 t
  rw [← V13_apply]
  show iblk m c 8 t (ix2 0 n) = _
  blk_simp [iblk]
  refine congrArg (V m c main_v13 : S1x256.Idx → EReal) ?_
  blk_ext [e]

theorem blk9_apply (c : Dev nD) (t : Fin cfg0.N) (n : Fin 256) : blk9 m c t (ix2 0 n) = arr9 m c (ix1 n) := by
  have e := index9 t
  rw [← V14_apply]
  show iblk m c 9 t (ix2 0 n) = _
  blk_simp [iblk]
  refine congrArg (V m c main_v14 : S1x256.Idx → EReal) ?_
  blk_ext [e]

theorem blk10_apply (c : Dev nD) (t : Fin cfg0.N) (l : Fin 128) : blk10 m c t (ix2 0 l) = kFreq l := by
  have e := index10 t
  rw [← V8_apply m c]
  show iblk m c 10 t (ix2 0 l) = _
  blk_simp [iblk]
  refine congrArg (V m c main_v8 : S1x128.Idx → EReal) ?_
  blk_ext [e]

theorem blk11_apply (c : Dev nD) (t : Fin cfg0.N) (u : Fin 128) : blk11 m c t (ix3 0 0 u) = arr10 m c (ix2 (bOf t) (sOf t u)) := by
  have e := index11 t
  rw [← V15_apply]
  show iblk m c 11 t (ix3 0 0 u) = _
  blk_simp [iblk]
  refine congrArg (V m c main_v15 : S2x1x16384.Idx → BitVec 32) ?_
  blk_ext [e, bOf, sOf]

end Cert.KernelIdeal.Value

end
-- ==== Proof.Results.lean ====
/-
  What the kernel's four result arrays hold at the end: the gradient of every row, and for each gain the sum over all
  rows of what a row adds.
-/
module

public import proofs.«01_k».proof.Proof.Geometry
public import proofs.«01_k».proof.Proof.Gen.KernelIdeal.Value

@[expose] public section

set_option maxRecDepth 65536

noncomputable section

namespace Cert.Row

open Idealize.ShloMosaic Idealize.ShloMosaic.Pointwise Cert.Angles

variable {H : ℕ} (x y : (⟨4, ![2, 16384, H, 256]⟩ : Shape).Idx → EReal) (sx sy : (⟨3, ![2, 16384, H]⟩ : Shape).Idx → EReal)
  (g : (⟨1, ![256]⟩ : Shape).Idx → EReal) (p : (⟨2, ![2, 16384]⟩ : Shape).Idx → BitVec 32) (f : Fin 128 → EReal)
  (b : Fin 2) (s : Fin 16384) (h : Fin H) (n : Fin 256)

/-- The gradient of row `(b, s, h)` as the kernel computes it, and what the row adds to the gradient of the gain. -/
def kGradX : EReal :=
  kDx (fun n => x (ix4 b s h n)) (fun n => y (ix4 b s h n)) (fun l => cosK (angle (p (ix2 b s)) (f l)))
    (fun l => sinK (angle (p (ix2 b s)) (f l))) (fun n => g (ix1 n)) (sx (ix3 b s h)) (sy (ix3 b s h)) n
def kGradG : EReal :=
  kDg (fun n => x (ix4 b s h n)) (fun n => y (ix4 b s h n)) (fun l => cosK (angle (p (ix2 b s)) (f l)))
    (fun l => sinK (angle (p (ix2 b s)) (f l))) (sx (ix3 b s h)) (sy (ix3 b s h)) n

end Cert.Row

namespace Cert.KernelIdeal.Value

open Idealize.ShloMosaic Idealize.ShloMosaic.TcCoe Idealize.SL.Sem Idealize.ShloMosaic.Pointwise
open Cert.KernelIdeal Cert.KernelIdeal.Gen Cert.Rows Cert.Row Cert.Angles

variable (m : (ℓ : Loc nD τ sig) → Buf (Elt Ideal) ℓ)

theorem eq_ix4_one {n1 n2 n3 : ℕ} (y : (⟨4, ![1, n1, n2, n3]⟩ : Shape).Idx) : y = ix4 0 (y 1) (y 2) (y 3) :=
  (eq_ix4 y).trans (congrArg (fun k : Fin 1 => ix4 (n0 := 1) k (y 1) (y 2) (y 3)) (Subsingleton.elim _ _))
theorem eq_ix2_one {n1 : ℕ} (y : (⟨2, ![1, n1]⟩ : Shape).Idx) : y = ix2 0 (y 1) :=
  (eq_ix2 y).trans (congrArg (fun k : Fin 1 => ix2 (n0 := 1) k (y 1)) (Subsingleton.elim _ _))

/-! ## Every token of every batch, once -/

theorem coords0_val (t : Fin cfg0.N) : (grid0.coords t 0).val = t.val / 128 % 2 :=
  Pipeline.Grid.coords_val t 0 (by decide) (by decide)
theorem coords1_val (t : Fin cfg0.N) : (grid0.coords t 1).val = t.val / 1 % 128 :=
  Pipeline.Grid.coords_val t 1 (by decide) (by decide)

theorem tokens_bijective : Function.Bijective fun q : Fin cfg0.N × Fin 128 => (bOf q.1, sOf q.1 q.2) := by
  have hN : cfg0.N = 256 := N_0
  rw [Fintype.bijective_iff_injective_and_card]
  constructor
  · rintro ⟨t, u⟩ ⟨t', u'⟩ e
    have e0 : (grid0.coords t 0).val = (grid0.coords t' 0).val := congrArg Fin.val (Prod.mk.inj e).1
    have e1 : 128 * (grid0.coords t 1).val + u.val = 128 * (grid0.coords t' 1).val + u'.val := congrArg Fin.val (Prod.mk.inj e).2
    rw [coords0_val, coords0_val] at e0
    rw [coords1_val, coords1_val] at e1
    have := t.isLt; have := t'.isLt; have := u.isLt; have := u'.isLt
    have ht : t.val = t'.val := by omega
    have hu : u.val = u'.val := by omega
    exact Prod.ext (Fin.ext ht) (Fin.ext hu)
  · simp [hN]

/-- A sum over the points, the heads and the tokens of a block is a sum over batches, positions and heads. -/
theorem sum_points {H : ℕ} (T : Fin 2 → Fin 16384 → Fin H → EReal) :
    ∑ t : Fin cfg0.N, ∑ h : Fin H, ∑ u : Fin 128, T (bOf t) (sOf t u) h = ∑ b : Fin 2, ∑ s : Fin 16384, ∑ h : Fin H, T b s h := by
  rw [← Fintype.sum_prod_type' (f := fun b s => ∑ h : Fin H, T b s h),
    ← tokens_bijective.sum_comp (fun q : Fin 2 × Fin 16384 => ∑ h : Fin H, T q.1 q.2 h), Fintype.sum_prod_type]
  exact Finset.sum_congr rfl fun t _ => Finset.sum_comm

/-! ## Results of windows 12 and 14 -/

def result12 (c : Dev nD) : S2x16384x16x256.Idx → EReal := fun i =>
  kGradX (arr4 m c) (arr0 m c) (arr5 m c) (arr1 m c) (arr8 m c) (arr10 m c) kFreq (i 0) (i 1) (i 2) (i 3)

theorem point12 (c : Dev nD) (t : Fin cfg0.N) (u : Fin 128) (h : Fin 16) (n : Fin 256) :
    (outsAt0 m c t.val t.isLt).1 (ix4 0 u h n) = result12 m c (ix4 (bOf t) (sOf t u) h n) := by
  rw [after12_apply]
  simp only [blk4_apply, blk0_apply, blk5_apply, blk1_apply, blk8_apply, blk10_apply, blk11_apply]
  rfl

theorem final12 (c : Dev nD) : (dats m 0 c).arrAt 12 cfg0.N = result12 m c := by
  refine (dats m 0 c).arrAt_eq_of_covers 12 _ (by decide +kernel) fun t hf y => ?_
  blk_simp
  rw [after0_12]
  have e := index12 t
  have hy : y = (ix4 (0 : Fin 1) (y 1) (y 2) (y 3) : S1x128x16x256.Idx) := eq_ix4_one (n1 := 128) (n2 := 16) (n3 := 256) y
  refine (congrArg (outsAt0 m c t.val t.isLt).1 hy).trans ((point12 m c t (y 1) (y 2) (y 3)).trans (congrArg (result12 m c) ?_))
  blk_ext [e, bOf, sOf]

def result14 (c : Dev nD) : S1x256.Idx → EReal := fun i =>
  ∑ b : Fin 2, ∑ s : Fin 16384, ∑ h : Fin 16,
    kGradG (arr4 m c) (arr0 m c) (arr5 m c) (arr1 m c) (arr10 m c) kFreq b s h (i 1)

theorem terms14 (c : Dev nD) (n : Fin 256) : ∑ t : Fin cfg0.N, term14 m c t n = result14 m c (ix2 0 n) := by
  refine Eq.trans ?_ (sum_points fun b s h => kGradG (arr4 m c) (arr0 m c) (arr5 m c) (arr1 m c) (arr10 m c) kFreq b s h n)
  refine Finset.sum_congr rfl fun t _ => Finset.sum_congr rfl fun h _ => Finset.sum_congr rfl fun u _ => ?_
  simp only [blk4_apply, blk0_apply, blk5_apply, blk1_apply, blk10_apply, blk11_apply]
  rfl

theorem final14 (c : Dev nD) : (dats m 0 c).arrAt 14 cfg0.N = result14 m c := by
  refine (dats m 0 c).arrAt_eq_of_covers 14 _ (by decide +kernel) fun t hf y => ?_
  have hN : cfg0.N = 256 := N_0
  have ht : t.val + 1 = cfg0.N := by
    have := (flush0_14 t).mp hf
    have := t.isLt
    omega
  blk_simp
  rw [after0_14]
  have e := index14 t
  have hy : y = (ix2 (0 : Fin 1) (y 1) : S1x256.Idx) := eq_ix2_one (n1 := 256) y
  refine (congrArg (outsAt0 m c t.val t.isLt).2.2.1 hy).trans ((after14_last m c t ht (y 1)).trans
    ((terms14 m c (y 1)).trans (congrArg (result14 m c) ?_)))
  blk_ext [e]

/-! ## Results of windows 13 and 15 -/

def result13 (c : Dev nD) : S2x16384x8x256.Idx → EReal := fun i =>
  kGradX (arr6 m c) (arr2 m c) (arr7 m c) (arr3 m c) (arr9 m c) (arr10 m c) kFreq (i 0) (i 1) (i 2) (i 3)

theorem point13 (c : Dev nD) (t : Fin cfg0.N) (u : Fin 128) (h : Fin 8) (n : Fin 256) :
    (outsAt0 m c t.val t.isLt).2.1 (ix4 0 u h n) = result13 m c (ix4 (bOf t) (sOf t u) h n) := by
  rw [after13_apply]
  simp only [blk6_apply, blk2_apply, blk7_apply, blk3_apply, blk9_apply, blk10_apply, blk11_apply]
  rfl

theorem final13 (c : Dev nD) : (dats m 0 c).arrAt 13 cfg0.N = result13 m c := by
  refine (dats m 0 c).arrAt_eq_of_covers 13 _ (by decide +kernel) fun t hf y => ?_
  blk_simp
  rw [after0_13]
  have e := index13 t
  have hy : y = (ix4 (0 : Fin 1) (y 1) (y 2) (y 3) : S1x128x8x256.Idx) := eq_ix4_one (n1 := 128) (n2 := 8) (n3 := 256) y
  refine (congrArg (outsAt0 m c t.val t.isLt).2.1 hy).trans ((point13 m c t (y 1) (y 2) (y 3)).trans (congrArg (result13 m c) ?_))
  blk_ext [e, bOf, sOf]

def result15 (c : Dev nD) : S1x256.Idx → EReal := fun i =>
  ∑ b : Fin 2, ∑ s : Fin 16384, ∑ h : Fin 8,
    kGradG (arr6 m c) (arr2 m c) (arr7 m c) (arr3 m c) (arr10 m c) kFreq b s h (i 1)

theorem terms15 (c : Dev nD) (n : Fin 256) : ∑ t : Fin cfg0.N, term15 m c t n = result15 m c (ix2 0 n) := by
  refine Eq.trans ?_ (sum_points fun b s h => kGradG (arr6 m c) (arr2 m c) (arr7 m c) (arr3 m c) (arr10 m c) kFreq b s h n)
  refine Finset.sum_congr rfl fun t _ => Finset.sum_congr rfl fun h _ => Finset.sum_congr rfl fun u _ => ?_
  simp only [blk6_apply, blk2_apply, blk7_apply, blk3_apply, blk10_apply, blk11_apply]
  rfl

theorem final15 (c : Dev nD) : (dats m 0 c).arrAt 15 cfg0.N = result15 m c := by
  refine (dats m 0 c).arrAt_eq_of_covers 15 _ (by decide +kernel) fun t hf y => ?_
  have hN : cfg0.N = 256 := N_0
  have ht : t.val + 1 = cfg0.N := by
    have := (flush0_15 t).mp hf
    have := t.isLt
    omega
  blk_simp
  rw [after0_15]
  have e := index15 t
  have hy : y = (ix2 (0 : Fin 1) (y 1) : S1x256.Idx) := eq_ix2_one (n1 := 256) y
  refine (congrArg (outsAt0 m c t.val t.isLt).2.2.2 hy).trans ((after15_last m c t ht (y 1)).trans
    ((terms15 m c (y 1)).trans (congrArg (result15 m c) ?_)))
  blk_ext [e]

end Cert.KernelIdeal.Value

end
-- ==== Proof.RefTables.lean ====
/-
  The tables of cosines and sines, read at a token and a lane: the reference's arrays.
-/
module

public import proofs.«01_k».proof.Proof.Angles
public import proofs.«01_k».proof.Proof.Gen.ReferenceIdeal.Read
public import Idealize.ShloMosaic.Lib.ValueIdx
public import Idealize.ShloMosaic.Lib.Pointwise

@[expose] public section

set_option maxRecDepth 65536

noncomputable section

open Idealize.ShloMosaic Idealize.ShloMosaic.TcCoe Idealize.SL.Sem Idealize.ShloMosaic.Pointwise

namespace Cert.ReferenceIdeal.Value

open Cert.ReferenceIdeal Cert.ReferenceIdeal.Gen Cert.ReferenceIdeal.Read Cert.Angles

variable (x10 : (⟨S2x16384, .i32⟩ : BufTy).Contents (Elt Ideal)) (b : Fin 2) (s : Fin 16384) (l : Fin 128)

/-- The reference's frequencies. -/
abbrev freq (l : Fin 128) : EReal := val_main_v8 (F := Ideal) (ix1 l)

theorem angle_apply : val_main_v14 (F := Ideal) x10 (ix3 b s l) = angle (x10 (ix2 b s)) (freq l) := by
  rw [val_main_v14_apply, val_main_v12_apply, val_main_v10_apply, val_main_v9_apply, val_main_v13_apply, val_main_v11_apply]
  show _ * val_main_v8 (F := Ideal) _ = _ * val_main_v8 (F := Ideal) _
  congr 2 <;> congr 1 <;> funext a <;> fin_cases a <;> rfl

theorem rem_apply : val_main_v26 (F := Ideal) x10 (ix3 b s l) = rem (val_main_v14 (F := Ideal) x10 (ix3 b s l)) := by
  simp only [val_main_v26_apply, val_main_v25_apply, val_main_v24_apply, val_main_v23_apply, val_main_v22_apply, val_main_v21_apply,
    val_main_v20_apply, val_main_v19_apply, val_main_v18_apply, val_main_v17_apply, val_main_v16_apply, val_main_v15_apply]
  rfl

theorem sin_apply : val_main_v37 (F := Ideal) x10 (ix3 b s l) = sinP (rem (val_main_v14 (F := Ideal) x10 (ix3 b s l))) := by
  rw [← rem_apply]
  simp only [val_main_v37_apply, val_main_v36_apply, val_main_v35_apply, val_main_v34_apply, val_main_v33_apply, val_main_v32_apply,
    val_main_v31_apply, val_main_v30_apply, val_main_v29_apply, val_main_v28_apply, val_main_v27_apply]
  rfl

theorem cos_apply : val_main_v51 (F := Ideal) x10 (ix3 b s l) = cosP (rem (val_main_v14 (F := Ideal) x10 (ix3 b s l))) := by
  rw [← rem_apply]
  simp only [val_main_v51_apply, val_main_v50_apply, val_main_v49_apply, val_main_v48_apply, val_main_v47_apply, val_main_v46_apply,
    val_main_v45_apply, val_main_v44_apply, val_main_v43_apply, val_main_v42_apply, val_main_v41_apply, val_main_v40_apply,
    val_main_v39_apply, val_main_v38_apply, val_main_v27_apply]
  rfl

theorem quadrant_apply : val_main_v54 (F := Ideal) x10 (ix3 b s l)
    = IntOp.andi (quadrant (val_main_v14 (F := Ideal) x10 (ix3 b s l))) 3#32 := by
  simp only [val_main_v54_apply, val_main_v53_apply, val_main_v52_apply, val_main_v17_apply, val_main_v16_apply, val_main_v15_apply]
  rfl

/-- The reference's tables. -/
theorem cosTable_apply : val_main_v65 (F := Ideal) x10 (ix3 b s l) = cosR (angle (x10 (ix2 b s)) (freq l)) := by
  rw [← angle_apply]
  simp only [val_main_v65_apply, val_main_v64_apply, val_main_v63_apply, val_main_v62_apply, val_main_v61_apply, val_main_v56_apply,
    val_main_v58_apply, val_main_v60_apply, val_main_v55_apply, val_main_v57_apply, val_main_v59_apply, sin_apply, cos_apply, quadrant_apply]
  rfl

theorem sinTable_apply : val_main_v70 (F := Ideal) x10 (ix3 b s l) = sinR (angle (x10 (ix2 b s)) (freq l)) := by
  rw [← angle_apply]
  simp only [val_main_v70_apply, val_main_v69_apply, val_main_v68_apply, val_main_v67_apply, val_main_v66_apply, val_main_v56_apply,
    val_main_v58_apply, val_main_v60_apply, val_main_v55_apply, val_main_v57_apply, val_main_v59_apply, sin_apply, cos_apply, quadrant_apply]
  rfl

end Cert.ReferenceIdeal.Value

end
-- ==== Proof.RefRead.lean ====
/-
  The reference's four results at an index: the gradient of a row, and for each gain the sum over all rows of what a row
  adds, by the formulas of Row.lean.
-/
module

public import proofs.«01_k».proof.Proof.RefTables
public import proofs.«01_k».proof.Proof.Row

@[expose] public section

set_option maxRecDepth 16384

noncomputable section

namespace Cert.Row

open Idealize.ShloMosaic Idealize.ShloMosaic.Pointwise Cert.Angles

variable {H : ℕ}

/-- A host sum over the first three of four axes. -/
theorem hostSum_rows {n1 n2 n3 n4 : ℕ} (h : (⟨4, ![n1, n2, n3, n4]⟩ : Shape).ReducesTo [0, 1, 2] ⟨1, ![n4]⟩)
    (v : (⟨4, ![n1, n2, n3, n4]⟩ : Shape).Idx → EReal) (init : EReal) (n : Fin n4) :
    Ideal.hostReduceAdd h v init (ix1 n) = init + ∑ b : Fin n1, ∑ s : Fin n2, ∑ k : Fin n3, v (ix4 b s k n) := by
  have hf : ∀ i, h.drop i = ix1 n ↔ ∃ k : Fin n1 × Fin n2 × Fin n3, ix4 k.1 k.2.1 k.2.2 n = i := by
    intro i
    constructor
    · intro e
      refine ⟨(i 0, i 1, i 2), ?_⟩
      have e3 : (i 3).val = n.val := congrArg Fin.val (congrFun e 0)
      funext a; apply Fin.ext
      match a with
      | ⟨0, _⟩ => rfl
      | ⟨1, _⟩ => rfl
      | ⟨2, _⟩ => rfl
      | ⟨3, _⟩ => exact e3.symm
    · rintro ⟨k, rfl⟩
      funext a; apply Fin.ext
      match a with
      | ⟨0, _⟩ => rfl
  refine congrArg (init + ·) ((Finset.sum_filter_eq_sum_of_fiber _ (fun k : Fin n1 × Fin n2 × Fin n3 => ix4 k.1 k.2.1 k.2.2 n)
    (fun _ _ e => Prod.ext (congrFun e 0) (Prod.ext (congrFun e 1) (congrFun e 2))) hf v).trans ?_)
  simp only [Fintype.sum_prod_type]

variable (x y : (⟨4, ![2, 16384, H, 256]⟩ : Shape).Idx → EReal) (sx sy : (⟨3, ![2, 16384, H]⟩ : Shape).Idx → EReal)
  (g : (⟨1, ![256]⟩ : Shape).Idx → EReal) (p : (⟨2, ![2, 16384]⟩ : Shape).Idx → BitVec 32) (f : Fin 128 → EReal)
  (b : Fin 2) (s : Fin 16384) (h : Fin H) (n : Fin 256)

/-- The rotated gradient of row `(b, s, h)`, the gradient of the row as the reference computes it, and what the row adds
    to the gradient of the gain. -/
def rRot : EReal :=
  rDn (fun n => y (ix4 b s h n)) (fun l => cosR (angle (p (ix2 b s)) (f l))) (fun l => sinR (angle (p (ix2 b s)) (f l)))
    (sy (ix3 b s h)) n
def rGradX : EReal :=
  rDx (fun n => x (ix4 b s h n)) (fun n => y (ix4 b s h n)) (fun l => cosR (angle (p (ix2 b s)) (f l)))
    (fun l => sinR (angle (p (ix2 b s)) (f l))) (fun n => g (ix1 n)) (sx (ix3 b s h)) (sy (ix3 b s h)) n
def rGradG : EReal :=
  rDg (fun n => x (ix4 b s h n)) (fun n => y (ix4 b s h n)) (fun l => cosR (angle (p (ix2 b s)) (f l)))
    (fun l => sinR (angle (p (ix2 b s)) (f l))) (sx (ix3 b s h)) (sy (ix3 b s h)) n

end Cert.Row

namespace Cert.ReferenceIdeal.Value

open Idealize.ShloMosaic Idealize.ShloMosaic.Pointwise
open Cert.ReferenceIdeal Cert.ReferenceIdeal.Gen Cert.ReferenceIdeal.Read Cert.Rows Cert.Row Cert.Angles

variable (x10 : S2x16384.Idx → BitVec 32) (b : Fin 2) (s : Fin 16384) (n : Fin 256) (l : Fin 128)

section query

variable (x1 x5 : S2x16384x16.Idx → EReal) (x8 : S256.Idx → EReal) (r0 r2 : S2x16384x16x256.Idx → EReal) (h : Fin 16)

theorem scaledY_query : val_main_v75 (F := Ideal) x1 r0 (ix4 b s h n) = r0 (ix4 b s h n) * x1 (ix3 b s h) := by
  rw [val_main_v75_apply, val_main_v74_apply, val_main_v73_apply]
  exact congrArg (r0 (ix4 b s h n) * x1 ·) (funext fun a => by fin_cases a <;> rfl)

theorem scaledX_query : val_main_v78 (F := Ideal) x5 r2 (ix4 b s h n) = r2 (ix4 b s h n) * x5 (ix3 b s h) := by
  rw [val_main_v78_apply, val_main_v77_apply, val_main_v76_apply]
  exact congrArg (r2 (ix4 b s h n) * x5 ·) (funext fun a => by fin_cases a <;> rfl)

theorem yLo_query : val_main_v79 (F := Ideal) x1 r0 (ix4 b s h l) = r0 (ix4 b s h (lo l)) * x1 (ix3 b s h) := by
  rw [val_main_v79_apply, ← scaledY_query]
  exact congrArg (val_main_v75 (F := Ideal) x1 r0) (funext fun a => by fin_cases a <;> apply Fin.ext <;> simp [lo] <;> rfl)

theorem yHi_query : val_main_v80 (F := Ideal) x1 r0 (ix4 b s h l) = r0 (ix4 b s h (hi l)) * x1 (ix3 b s h) := by
  rw [val_main_v80_apply, ← scaledY_query]
  exact congrArg (val_main_v75 (F := Ideal) x1 r0) (funext fun a => by fin_cases a <;> apply Fin.ext <;> simp [hi] <;> rfl)

theorem cos_query : val_main_v81 (F := Ideal) x10 (ix4 b s h l) = cosR (angle (x10 (ix2 b s)) (freq l)) := by
  rw [val_main_v81_apply, val_main_v71_apply, ← cosTable_apply]
  exact congrArg (val_main_v65 (F := Ideal) x10) (funext fun a => by fin_cases a <;> rfl)

theorem sin_query : val_main_v83 (F := Ideal) x10 (ix4 b s h l) = sinR (angle (x10 (ix2 b s)) (freq l)) := by
  rw [val_main_v83_apply, val_main_v72_apply, ← sinTable_apply]
  exact congrArg (val_main_v70 (F := Ideal) x10) (funext fun a => by fin_cases a <;> rfl)

theorem cos'_query : val_main_v86 (F := Ideal) x10 (ix4 b s h l) = cosR (angle (x10 (ix2 b s)) (freq l)) := cos_query ..
theorem sin'_query : val_main_v88 (F := Ideal) x10 (ix4 b s h l) = sinR (angle (x10 (ix2 b s)) (freq l)) := sin_query ..

/-- The rotated gradient. -/
theorem dn_query : val_main_v91 (F := Ideal) x1 x10 r0 (ix4 b s h n) = rRot r0 x1 x10 freq b s h n := by
  unfold val_main_v91 rRot rDn
  rw [concatenate_pair_apply]
  by_cases hn : n.val < 128
  · rw [dif_pos hn]
    refine (dif_pos (show ((ix4 b s h n : S2x16384x16x256.Idx) 3).val < 128 from hn)).trans ?_
    refine (congrArg (val_main_v85 (F := Ideal) x1 x10 r0) (show _ = ix4 b s h (⟨n.val, hn⟩ : Fin 128) from
      funext fun a => by fin_cases a <;> rfl)).trans ?_
    rw [val_main_v85_apply, val_main_v82_apply, val_main_v84_apply, yLo_query, yHi_query, cos_query, sin_query]
    rfl
  · rw [dif_neg hn]
    refine (dif_neg (show ¬ ((ix4 b s h n : S2x16384x16x256.Idx) 3).val < 128 from hn)).trans ?_
    refine (congrArg (val_main_v90 (F := Ideal) x1 x10 r0) (show _ = ix4 b s h (⟨n.val - 128, by omega⟩ : Fin 128) from
      funext fun a => by fin_cases a <;> rfl)).trans ?_
    rw [val_main_v90_apply, val_main_v87_apply, val_main_v89_apply, yLo_query, yHi_query, cos'_query, sin'_query]
    rfl

/-- The reciprocal root of the mean square. -/
theorem rstd_query : val_main_v99 (F := Ideal) x5 r2 (ix4 b s h 0) = rR (fun n => r2 (ix4 b s h n)) (x5 (ix3 b s h)) := by
  have e : val_main_v93 (F := Ideal) x5 r2 (ix3 b s h)
      = c0 + ∑ k : Fin 256, r2 (ix4 b s h k) * x5 (ix3 b s h) * (r2 (ix4 b s h k) * x5 (ix3 b s h)) := by
    rw [val_main_v93_apply]
    refine congrArg (c0 + ·) (Finset.sum_congr rfl fun k _ => ?_)
    rw [val_main_v92_apply, ← scaledX_query]
    exact congrArg (fun v => v * v) (congrArg (val_main_v78 (F := Ideal) x5 r2) (funext fun a => by fin_cases a <;> rfl))
  rw [val_main_v99_apply, val_main_v98_apply, val_main_v96_apply, val_main_v94_apply, val_main_v95_apply, val_main_v97_apply]
  unfold rR
  rw [← e]
  refine congrArg (fun v => Ideal.rsqrt (Ideal.div v c256 + cE)) (congrArg (val_main_v93 (F := Ideal) x5 r2) ?_)
  exact funext fun a => by fin_cases a <;> rfl

/-- The normalised row. -/
theorem xhat_query : val_main_v101 (F := Ideal) x5 r2 (ix4 b s h n) = rXhat (fun n => r2 (ix4 b s h n)) (x5 (ix3 b s h)) n := by
  rw [val_main_v101_apply, val_main_v100_apply, scaledX_query]
  unfold rXhat
  rw [← rstd_query]
  exact congrArg (fun i => r2 (ix4 b s h n) * x5 (ix3 b s h) * val_main_v99 (F := Ideal) x5 r2 i) (funext fun a => by fin_cases a <;> rfl)

theorem dxhat_query : val_main_v106 (F := Ideal) x1 x8 x10 r0 (ix4 b s h n) = rRot r0 x1 x10 freq b s h n * x8 (ix1 n) := by
  rw [val_main_v106_apply, val_main_v105_apply, val_main_v104_apply, dn_query]
  exact congrArg (fun i => rRot r0 x1 x10 freq b s h n * x8 i) (funext fun a => by fin_cases a <;> rfl)

theorem mean_query : val_main_v111 (F := Ideal) x1 x5 x8 x10 r0 r2 (ix4 b s h 0)
    = Ideal.div (c0 + ∑ k : Fin 256, rRot r0 x1 x10 freq b s h k * x8 (ix1 k) * rXhat (fun n => r2 (ix4 b s h n)) (x5 (ix3 b s h)) k) c256 := by
  have e : val_main_v108 (F := Ideal) x1 x5 x8 x10 r0 r2 (ix3 b s h)
      = c0 + ∑ k : Fin 256, rRot r0 x1 x10 freq b s h k * x8 (ix1 k) * rXhat (fun n => r2 (ix4 b s h n)) (x5 (ix3 b s h)) k := by
    rw [val_main_v108_apply]
    refine congrArg (c0 + ·) (Finset.sum_congr rfl fun k _ => ?_)
    rw [← dxhat_query, ← xhat_query]
    exact congrArg (val_main_v107 (F := Ideal) x1 x5 x8 x10 r0 r2) (funext fun a => by fin_cases a <;> rfl)
  rw [val_main_v111_apply, val_main_v109_apply, val_main_v110_apply, ← e]
  exact congrArg (fun i => Ideal.div (val_main_v108 (F := Ideal) x1 x5 x8 x10 r0 r2 i) c256) (funext fun a => by fin_cases a <;> rfl)

/-- The gradient of a row. -/
theorem gradX_query : val_main_v117 (F := Ideal) x1 x5 x8 x10 r0 r2 (ix4 b s h n) = rGradX r2 r0 x5 x1 x8 x10 freq b s h n := by
  have e1 : val_main_v115 (F := Ideal) x5 r2 (ix4 b s h n) = rR (fun n => r2 (ix4 b s h n)) (x5 (ix3 b s h)) := by
    rw [val_main_v115_apply, ← rstd_query]
    exact congrArg (val_main_v99 (F := Ideal) x5 r2) (funext fun a => by fin_cases a <;> rfl)
  have e2 : val_main_v112 (F := Ideal) x1 x5 x8 x10 r0 r2 (ix4 b s h n) = val_main_v111 (F := Ideal) x1 x5 x8 x10 r0 r2 (ix4 b s h 0) := by
    rw [val_main_v112_apply]
    exact congrArg (val_main_v111 (F := Ideal) x1 x5 x8 x10 r0 r2) (funext fun a => by fin_cases a <;> rfl)
  rw [val_main_v117_apply, val_main_v116_apply, val_main_v114_apply, val_main_v113_apply, e1, e2, mean_query, xhat_query, dxhat_query]
  rfl

/-- The gradient of the gain. -/
theorem gradG_query : val_main_v118 (F := Ideal) x1 x5 x10 r0 r2 (ix2 0 n)
    = c0 + ∑ b : Fin 2, ∑ s : Fin 16384, ∑ h : Fin 16, rGradG r2 r0 x5 x1 x10 freq b s h n := by
  rw [val_main_v118_apply, show idx_main_v118 (ix2 0 n) = ix1 n from funext fun a => by fin_cases a <;> rfl]
  unfold val_main_v103
  refine (hostSum_rows (n1 := 2) (n2 := 16384) (n3 := 16) (n4 := 256) reducesTo_S2x16384x16x256_S256_d0_1_2 _ _ n).trans ?_
  refine congrArg (c0 + ·) (Finset.sum_congr rfl fun b _ => Finset.sum_congr rfl fun s _ => Finset.sum_congr rfl fun h _ => ?_)
  rw [val_main_v102_apply, dn_query, xhat_query]
  rfl

end query

section key

variable (x3 x7 : S2x16384x8.Idx → EReal) (x9 : S256.Idx → EReal) (r1 r3 : S2x16384x8x256.Idx → EReal) (h : Fin 8)

theorem scaledY_key : val_main_v121 (F := Ideal) x3 r1 (ix4 b s h n) = r1 (ix4 b s h n) * x3 (ix3 b s h) := by
  rw [val_main_v121_apply, val_main_v120_apply, val_main_v119_apply]
  exact congrArg (r1 (ix4 b s h n) * x3 ·) (funext fun a => by fin_cases a <;> rfl)

theorem scaledX_key : val_main_v124 (F := Ideal) x7 r3 (ix4 b s h n) = r3 (ix4 b s h n) * x7 (ix3 b s h) := by
  rw [val_main_v124_apply, val_main_v123_apply, val_main_v122_apply]
  exact congrArg (r3 (ix4 b s h n) * x7 ·) (funext fun a => by fin_cases a <;> rfl)

theorem yLo_key : val_main_v125 (F := Ideal) x3 r1 (ix4 b s h l) = r1 (ix4 b s h (lo l)) * x3 (ix3 b s h) := by
  rw [val_main_v125_apply, ← scaledY_key]
  exact congrArg (val_main_v121 (F := Ideal) x3 r1) (funext fun a => by fin_cases a <;> apply Fin.ext <;> simp [lo] <;> rfl)

theorem yHi_key : val_main_v126 (F := Ideal) x3 r1 (ix4 b s h l) = r1 (ix4 b s h (hi l)) * x3 (ix3 b s h) := by
  rw [val_main_v126_apply, ← scaledY_key]
  exact congrArg (val_main_v121 (F := Ideal) x3 r1) (funext fun a => by fin_cases a <;> apply Fin.ext <;> simp [hi] <;> rfl)

theorem cos_key : val_main_v127 (F := Ideal) x10 (ix4 b s h l) = cosR (angle (x10 (ix2 b s)) (freq l)) := by
  rw [val_main_v127_apply, val_main_v71_apply, ← cosTable_apply]
  exact congrArg (val_main_v65 (F := Ideal) x10) (funext fun a => by fin_cases a <;> rfl)

theorem sin_key : val_main_v129 (F := Ideal) x10 (ix4 b s h l) = sinR (angle (x10 (ix2 b s)) (freq l)) := by
  rw [val_main_v129_apply, val_main_v72_apply, ← sinTable_apply]
  exact congrArg (val_main_v70 (F := Ideal) x10) (funext fun a => by fin_cases a <;> rfl)

theorem cos'_key : val_main_v132 (F := Ideal) x10 (ix4 b s h l) = cosR (angle (x10 (ix2 b s)) (freq l)) := cos_key ..
theorem sin'_key : val_main_v134 (F := Ideal) x10 (ix4 b s h l) = sinR (angle (x10 (ix2 b s)) (freq l)) := sin_key ..

/-- The rotated gradient. -/
theorem dn_key : val_main_v137 (F := Ideal) x3 x10 r1 (ix4 b s h n) = rRot r1 x3 x10 freq b s h n := by
  unfold val_main_v137 rRot rDn
  rw [concatenate_pair_apply]
  by_cases hn : n.val < 128
  · rw [dif_pos hn]
    refine (dif_pos (show ((ix4 b s h n : S2x16384x8x256.Idx) 3).val < 128 from hn)).trans ?_
    refine (congrArg (val_main_v131 (F := Ideal) x3 x10 r1) (show _ = ix4 b s h (⟨n.val, hn⟩ : Fin 128) from
      funext fun a => by fin_cases a <;> rfl)).trans ?_
    rw [val_main_v131_apply, val_main_v128_apply, val_main_v130_apply, yLo_key, yHi_key, cos_key, sin_key]
    rfl
  · rw [dif_neg hn]
    refine (dif_neg (show ¬ ((ix4 b s h n : S2x16384x8x256.Idx) 3).val < 128 from hn)).trans ?_
    refine (congrArg (val_main_v136 (F := Ideal) x3 x10 r1) (show _ = ix4 b s h (⟨n.val - 128, by omega⟩ : Fin 128) from
      funext fun a => by fin_cases a <;> rfl)).trans ?_
    rw [val_main_v136_apply, val_main_v133_apply, val_main_v135_apply, yLo_key, yHi_key, cos'_key, sin'_key]
    rfl

/-- The reciprocal root of the mean square. -/
theorem rstd_key : val_main_v145 (F := Ideal) x7 r3 (ix4 b s h 0) = rR (fun n => r3 (ix4 b s h n)) (x7 (ix3 b s h)) := by
  have e : val_main_v139 (F := Ideal) x7 r3 (ix3 b s h)
      = c0 + ∑ k : Fin 256, r3 (ix4 b s h k) * x7 (ix3 b s h) * (r3 (ix4 b s h k) * x7 (ix3 b s h)) := by
    rw [val_main_v139_apply]
    refine congrArg (c0 + ·) (Finset.sum_congr rfl fun k _ => ?_)
    rw [val_main_v138_apply, ← scaledX_key]
    exact congrArg (fun v => v * v) (congrArg (val_main_v124 (F := Ideal) x7 r3) (funext fun a => by fin_cases a <;> rfl))
  rw [val_main_v145_apply, val_main_v144_apply, val_main_v142_apply, val_main_v140_apply, val_main_v141_apply, val_main_v143_apply]
  unfold rR
  rw [← e]
  refine congrArg (fun v => Ideal.rsqrt (Ideal.div v c256 + cE)) (congrArg (val_main_v139 (F := Ideal) x7 r3) ?_)
  exact funext fun a => by fin_cases a <;> rfl

/-- The normalised row. -/
theorem xhat_key : val_main_v147 (F := Ideal) x7 r3 (ix4 b s h n) = rXhat (fun n => r3 (ix4 b s h n)) (x7 (ix3 b s h)) n := by
  rw [val_main_v147_apply, val_main_v146_apply, scaledX_key]
  unfold rXhat
  rw [← rstd_key]
  exact congrArg (fun i => r3 (ix4 b s h n) * x7 (ix3 b s h) * val_main_v145 (F := Ideal) x7 r3 i) (funext fun a => by fin_cases a <;> rfl)

theorem dxhat_key : val_main_v152 (F := Ideal) x3 x9 x10 r1 (ix4 b s h n) = rRot r1 x3 x10 freq b s h n * x9 (ix1 n) := by
  rw [val_main_v152_apply, val_main_v151_apply, val_main_v150_apply, dn_key]
  exact congrArg (fun i => rRot r1 x3 x10 freq b s h n * x9 i) (funext fun a => by fin_cases a <;> rfl)

theorem mean_key : val_main_v157 (F := Ideal) x3 x7 x9 x10 r1 r3 (ix4 b s h 0)
    = Ideal.div (c0 + ∑ k : Fin 256, rRot r1 x3 x10 freq b s h k * x9 (ix1 k) * rXhat (fun n => r3 (ix4 b s h n)) (x7 (ix3 b s h)) k) c256 := by
  have e : val_main_v154 (F := Ideal) x3 x7 x9 x10 r1 r3 (ix3 b s h)
      = c0 + ∑ k : Fin 256, rRot r1 x3 x10 freq b s h k * x9 (ix1 k) * rXhat (fun n => r3 (ix4 b s h n)) (x7 (ix3 b s h)) k := by
    rw [val_main_v154_apply]
    refine congrArg (c0 + ·) (Finset.sum_congr rfl fun k _ => ?_)
    rw [← dxhat_key, ← xhat_key]
    exact congrArg (val_main_v153 (F := Ideal) x3 x7 x9 x10 r1 r3) (funext fun a => by fin_cases a <;> rfl)
  rw [val_main_v157_apply, val_main_v155_apply, val_main_v156_apply, ← e]
  exact congrArg (fun i => Ideal.div (val_main_v154 (F := Ideal) x3 x7 x9 x10 r1 r3 i) c256) (funext fun a => by fin_cases a <;> rfl)

/-- The gradient of a row. -/
theorem gradX_key : val_main_v163 (F := Ideal) x3 x7 x9 x10 r1 r3 (ix4 b s h n) = rGradX r3 r1 x7 x3 x9 x10 freq b s h n := by
  have e1 : val_main_v161 (F := Ideal) x7 r3 (ix4 b s h n) = rR (fun n => r3 (ix4 b s h n)) (x7 (ix3 b s h)) := by
    rw [val_main_v161_apply, ← rstd_key]
    exact congrArg (val_main_v145 (F := Ideal) x7 r3) (funext fun a => by fin_cases a <;> rfl)
  have e2 : val_main_v158 (F := Ideal) x3 x7 x9 x10 r1 r3 (ix4 b s h n) = val_main_v157 (F := Ideal) x3 x7 x9 x10 r1 r3 (ix4 b s h 0) := by
    rw [val_main_v158_apply]
    exact congrArg (val_main_v157 (F := Ideal) x3 x7 x9 x10 r1 r3) (funext fun a => by fin_cases a <;> rfl)
  rw [val_main_v163_apply, val_main_v162_apply, val_main_v160_apply, val_main_v159_apply, e1, e2, mean_key, xhat_key, dxhat_key]
  rfl

/-- The gradient of the gain. -/
theorem gradG_key : val_main_v164 (F := Ideal) x3 x7 x10 r1 r3 (ix2 0 n)
    = c0 + ∑ b : Fin 2, ∑ s : Fin 16384, ∑ h : Fin 8, rGradG r3 r1 x7 x3 x10 freq b s h n := by
  rw [val_main_v164_apply, show idx_main_v164 (ix2 0 n) = ix1 n from funext fun a => by fin_cases a <;> rfl]
  unfold val_main_v149
  refine (hostSum_rows (n1 := 2) (n2 := 16384) (n3 := 8) (n4 := 256) reducesTo_S2x16384x8x256_S256_d0_1_2 _ _ n).trans ?_
  refine congrArg (c0 + ·) (Finset.sum_congr rfl fun b _ => Finset.sum_congr rfl fun s _ => Finset.sum_congr rfl fun h _ => ?_)
  rw [val_main_v148_apply, dn_key, xhat_key]
  rfl

end key

end Cert.ReferenceIdeal.Value

end
-- ==== Proof.RefRun.lean ====
/-
  The reference's run: its four results by the formulas of RefRead.lean, from its arguments.
-/
module

public import proofs.«01_k».proof.Proof.RefRead
public import proofs.«01_k».proof.Proof.Gen.ReferenceIdeal.Run
public import Idealize.ShloMosaic.Lib.Pipeline.ValueKit

@[expose] public section

set_option maxRecDepth 65536

noncomputable section

open Idealize.ShloMosaic Idealize.ShloMosaic.TcCoe Idealize.SL.Sem Idealize.ShloMosaic.Pointwise Idealize.ShloMosaic.Pipeline

namespace Cert.ReferenceIdeal.Value

open Cert.ReferenceIdeal Cert.ReferenceIdeal.Gen Cert.ReferenceIdeal.Read Cert.Row

variable (m : (ℓ : Loc nD τ sig) → Buf (Elt Ideal) ℓ) (c : Dev nD)

/-- The arguments, as arrays of extended reals and of words. -/
abbrev arg0 : S2x16384x16x256.Idx → EReal := m ((c : Thread nD τ).loc main_arg0)
abbrev arg1 : S2x16384x16.Idx → EReal := m ((c : Thread nD τ).loc main_arg1)
abbrev arg2 : S2x16384x8x256.Idx → EReal := m ((c : Thread nD τ).loc main_arg2)
abbrev arg3 : S2x16384x8.Idx → EReal := m ((c : Thread nD τ).loc main_arg3)
abbrev arg4 : S2x16384x16x256.Idx → EReal := m ((c : Thread nD τ).loc main_arg4)
abbrev arg5 : S2x16384x16.Idx → EReal := m ((c : Thread nD τ).loc main_arg5)
abbrev arg6 : S2x16384x8x256.Idx → EReal := m ((c : Thread nD τ).loc main_arg6)
abbrev arg7 : S2x16384x8.Idx → EReal := m ((c : Thread nD τ).loc main_arg7)
abbrev arg8 : S256.Idx → EReal := m ((c : Thread nD τ).loc main_arg8)
abbrev arg9 : S256.Idx → EReal := m ((c : Thread nD τ).loc main_arg9)
abbrev arg10 : S2x16384.Idx → BitVec 32 := m ((c : Thread nD τ).loc main_arg10)

/-! ## The widened codes are the codes: over the extended reals a cast changes nothing -/

theorem widened0 : reg_main_v0_0 m c = arg0 m c := by
  refine (dats m 0 c).arrAt_eq_of_covers 4 _ (by decide +kernel) fun t hf y => ?_
  blk_simp
  rw [after0_4]
  unfold out0_4 k0_pay1
  rw [View.canon_unit_zero (by funext a; fin_cases a <;> rfl), View.ld_unit_zero (by funext a; fin_cases a <;> rfl)]
  refine congrArg (m ((c : Thread nD τ).loc main_arg0)) ?_
  blk_ext [] <;> rfl

theorem widened1 : reg_main_v0_1 m c = arg2 m c := by
  refine (dats m 0 c).arrAt_eq_of_covers 5 _ (by decide +kernel) fun t hf y => ?_
  blk_simp
  rw [after0_5]
  unfold out0_5 k0_pay2
  rw [View.canon_unit_zero (by funext a; fin_cases a <;> rfl), View.ld_unit_zero (by funext a; fin_cases a <;> rfl)]
  refine congrArg (m ((c : Thread nD τ).loc main_arg2)) ?_
  blk_ext [] <;> rfl

theorem widened2 : reg_main_v0_2 m c = arg4 m c := by
  refine (dats m 0 c).arrAt_eq_of_covers 6 _ (by decide +kernel) fun t hf y => ?_
  blk_simp
  rw [after0_6]
  unfold out0_6 k0_pay3
  rw [View.canon_unit_zero (by funext a; fin_cases a <;> rfl), View.ld_unit_zero (by funext a; fin_cases a <;> rfl)]
  refine congrArg (m ((c : Thread nD τ).loc main_arg4)) ?_
  blk_ext [] <;> rfl

theorem widened3 : reg_main_v0_3 m c = arg6 m c := by
  refine (dats m 0 c).arrAt_eq_of_covers 7 _ (by decide +kernel) fun t hf y => ?_
  blk_simp
  rw [after0_7]
  unfold out0_7 k0_pay4
  rw [View.canon_unit_zero (by funext a; fin_cases a <;> rfl), View.ld_unit_zero (by funext a; fin_cases a <;> rfl)]
  refine congrArg (m ((c : Thread nD τ).loc main_arg6)) ?_
  blk_ext [] <;> rfl

/-! ## The results -/

def gradQ : S2x16384x16x256.Idx → EReal := fun i =>
  rGradX (arg4 m c) (arg0 m c) (arg5 m c) (arg1 m c) (arg8 m c) (arg10 m c) freq (i 0) (i 1) (i 2) (i 3)
def gradK : S2x16384x8x256.Idx → EReal := fun i =>
  rGradX (arg6 m c) (arg2 m c) (arg7 m c) (arg3 m c) (arg9 m c) (arg10 m c) freq (i 0) (i 1) (i 2) (i 3)
def gainQ : S1x256.Idx → EReal := fun i =>
  c0 + ∑ b : Fin 2, ∑ s : Fin 16384, ∑ h : Fin 16, rGradG (arg4 m c) (arg0 m c) (arg5 m c) (arg1 m c) (arg10 m c) freq b s h (i 1)
def gainK : S1x256.Idx → EReal := fun i =>
  c0 + ∑ b : Fin 2, ∑ s : Fin 16384, ∑ h : Fin 8, rGradG (arg6 m c) (arg2 m c) (arg7 m c) (arg3 m c) (arg10 m c) freq b s h (i 1)

theorem gradQ_eq : val_main_v117 (F := Ideal) (arg1 m c) (arg5 m c) (arg8 m c) (arg10 m c) (arg0 m c) (arg4 m c) = gradQ m c := by
  funext i
  rw [eq_ix4 i]
  exact gradX_query ..
theorem gradK_eq : val_main_v163 (F := Ideal) (arg3 m c) (arg7 m c) (arg9 m c) (arg10 m c) (arg2 m c) (arg6 m c) = gradK m c := by
  funext i
  rw [eq_ix4 i]
  exact gradX_key ..
theorem gainQ_eq : val_main_v118 (F := Ideal) (arg1 m c) (arg5 m c) (arg10 m c) (arg0 m c) (arg4 m c) = gainQ m c := by
  funext i
  rw [eq_ix2 i, show i 0 = (0 : Fin 1) from Subsingleton.elim (α := Fin 1) _ _]
  exact gradG_query ..
theorem gainK_eq : val_main_v164 (F := Ideal) (arg3 m c) (arg7 m c) (arg10 m c) (arg2 m c) (arg6 m c) = gainK m c := by
  funext i
  rw [eq_ix2 i, show i 0 = (0 : Fin 1) from Subsingleton.elim (α := Fin 1) _ _]
  exact gradG_key ..

/-- The reference ends with its results at these arrays and its arguments as they were. -/
theorem run_results (ρ : Dev nD → PrngReg) :
    θ_run (defs (F := Ideal)) (onTc (τ := τ) (main (F := Ideal))) ⟨m, fun _ => 0, ρ⟩ fun r => ∀ c : Dev nD,
      r.2.mem ((c.tc : Thread nD τ).loc main_v117) = gradQ m c
      ∧ r.2.mem ((c.tc : Thread nD τ).loc main_v163) = gradK m c
      ∧ r.2.mem ((c.tc : Thread nD τ).loc main_v118) = gainQ m c
      ∧ r.2.mem ((c.tc : Thread nD τ).loc main_v164) = gainK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ?_) (run m ρ)
  obtain ⟨h1, h2, h3, h4, hargs⟩ := h c
  refine ⟨h1.trans ?_, h2.trans ?_, h3.trans ?_, h4.trans ?_, hargs⟩
  · rw [val_main_v117_eq, exit_main_arg1, exit_main_arg5, exit_main_arg8, exit_main_arg10, exit_main_v0_0, exit_main_v0_2,
      widened0, widened2]
    exact gradQ_eq m c
  · rw [val_main_v163_eq, exit_main_arg3, exit_main_arg7, exit_main_arg9, exit_main_arg10, exit_main_v0_1, exit_main_v0_3,
      widened1, widened3]
    exact gradK_eq m c
  · rw [val_main_v118_eq, exit_main_arg1, exit_main_arg5, exit_main_arg10, exit_main_v0_0, exit_main_v0_2, widened0, widened2]
    exact gainQ_eq m c
  · rw [val_main_v164_eq, exit_main_arg3, exit_main_arg7, exit_main_arg10, exit_main_v0_1, exit_main_v0_3, widened1, widened3]
    exact gainK_eq m c

end Cert.ReferenceIdeal.Value

end
-- ==== Proof.Agree.lean ====
/-
  The kernel's formulas and the reference's are equal where the scales satisfy the precondition.
-/
module

public import proofs.«01_k».proof.Proof.Results
public import proofs.«01_k».proof.Proof.RefRead

@[expose] public section

set_option maxRecDepth 16384

noncomputable section

namespace Cert.Row

open Idealize.ShloMosaic Idealize.ShloMosaic.Pointwise Cert.Angles

/-- Both programs compute the frequencies of the rotation by the same operations. -/
theorem freq_eq : Cert.KernelIdeal.Value.kFreq = Cert.ReferenceIdeal.Value.freq := rfl

variable {H : ℕ} (x y : (⟨4, ![2, 16384, H, 256]⟩ : Shape).Idx → EReal) (sx sy : (⟨3, ![2, 16384, H]⟩ : Shape).Idx → EReal)
  (g : (⟨1, ![256]⟩ : Shape).Idx → EReal) (p : (⟨2, ![2, 16384]⟩ : Shape).Idx → BitVec 32) (f : Fin 128 → EReal)
  (b : Fin 2) (s : Fin 16384) (h : Fin H) (n : Fin 256)

theorem gradX_eq (hy : ∀ i, 0 ≤ sy i ∧ sy i ≠ ⊤) (hx : ∀ i, 0 ≤ sx i) :
    kGradX x y sx sy g p f b s h n = rGradX x y sx sy g p f b s h n := by
  unfold kGradX rGradX
  simp only [cos_eq, sin_eq]
  exact kDx_eq _ _ _ _ _ _ _ (hy _).1 (hy _).2 (hx _) n

theorem gradG_eq (hy : ∀ i, 0 ≤ sy i ∧ sy i ≠ ⊤) :
    kGradG x y sx sy p f b s h n = rGradG x y sx sy p f b s h n := by
  unfold kGradG rGradG
  simp only [cos_eq, sin_eq]
  exact kDg_eq _ _ _ _ _ _ (hy _).1 (hy _).2 n

end Cert.Row

end
-- ==== Proof.Scales.lean ====
/-
  The precondition read back: the scales of the gradients' codes are not negative and not infinite, those of the rows'
  codes are not negative.
-/
module

public import proofs.«01_k».proof.Pre_scales_ok
public import proofs.«01_k».proof.Proof.Row
public import Idealize.ShloMosaic.Lib.ReduceAll
public import Idealize.ShloMosaic.Lib.Pointwise

@[expose] public section

set_option maxRecDepth 16384

noncomputable section

namespace Cert.Pre_scales_ok

open Idealize.ShloMosaic Cert.Row

/-- The shape relations that the predicate states. -/
theorem facts : Facts where
  bcast_S_S2x16384x16 := by decide +kernel
  reducesTo_S2x16384x16_S_d0_1_2 := by decide +kernel
  h_S_ := by decide +kernel
  bcast_S_S2x16384x8 := by decide +kernel
  reducesTo_S2x16384x8_S_d0_1_2 := by decide +kernel

/-- A comparison with a constant spread over an array, true at an index. -/
theorem of_oge {s : Shape} {x : FVec Ideal s .f32} {h : S_.BroadcastsInDim s (![] : Fin 0 → Fin s.rank)} {i : s.Idx}
    (e : cmpf .oge x (broadcastInDim s ![] h (constant S_ .f32 0x00000000#32 : FVec Ideal S_ .f32)) i = 1#1) : (0 : EReal) ≤ x i := by
  have e' : Ideal.cmp .oge (x i) c0 = 1#1 := e
  rw [c0_eq] at e'
  exact (Ideal.cmp_oge_eq_one _ _).1 e'

theorem of_olt {s : Shape} {x : FVec Ideal s .f32} {h : S_.BroadcastsInDim s (![] : Fin 0 → Fin s.rank)} {i : s.Idx}
    (e : cmpf .olt x (broadcastInDim s ![] h (constant S_ .f32 0x7F800000#32 : FVec Ideal S_ .f32)) i = 1#1) : x i ≠ (⊤ : EReal) := by
  have e' : Ideal.cmp .olt (x i) (FloatOps.ofBits .f32 0x7F800000#32 : Ideal .f32) = 1#1 := e
  have e2 : x i < (FloatOps.ofBits .f32 0x7F800000#32 : Ideal .f32) := (Ideal.cmp_olt_eq_one _ _).1 e'
  exact ne_top_of_lt e2

instance : Subsingleton S_.Idx := ⟨fun a b => funext fun k => k.elim0⟩

/-- What the predicate says of the scales. -/
theorem scales [Facts] {a0 : FVec Ideal S2x16384x16x256 .fp8e5m2} {a1 : FVec Ideal S2x16384x16 .f32}
    {a2 : FVec Ideal S2x16384x8x256 .fp8e5m2} {a3 : FVec Ideal S2x16384x8 .f32} {a4 : FVec Ideal S2x16384x16x256 .fp8e4m3}
    {a5 : FVec Ideal S2x16384x16 .f32} {a6 : FVec Ideal S2x16384x8x256 .fp8e4m3} {a7 : FVec Ideal S2x16384x8 .f32}
    {a8 a9 : FVec Ideal S256 .f32} {a10 : IVec S2x16384 32} (e : fn (F := Ideal) a0 a1 a2 a3 a4 a5 a6 a7 a8 a9 a10 = fun _ => 1#1) :
    (∀ i, (0 : EReal) ≤ a1 i ∧ a1 i ≠ (⊤ : EReal)) ∧ (∀ i, (0 : EReal) ≤ a3 i ∧ a3 i ≠ (⊤ : EReal))
      ∧ (∀ i, (0 : EReal) ≤ a5 i) ∧ ∀ i, (0 : EReal) ≤ a7 i := by
  have h0 := congrFun e (fun k => k.elim0)
  unfold fn fn_part1 at h0
  obtain ⟨h1, h7⟩ := IntOp.andi_eq_one.1 h0
  obtain ⟨h2, h5⟩ := IntOp.andi_eq_one.1 h1
  obtain ⟨hq, hk⟩ := IntOp.andi_eq_one.1 h2
  refine ⟨fun i => ?_, fun i => ?_, fun i => ?_, fun i => ?_⟩
  · obtain ⟨l, r⟩ := IntOp.andi_eq_one.1 (Host.reduce_andi_all _ _ _ _ _ hq i)
    exact ⟨of_oge l, of_olt r⟩
  · obtain ⟨l, r⟩ := IntOp.andi_eq_one.1 (Host.reduce_andi_all _ _ _ _ _ hk i)
    exact ⟨of_oge l, of_olt r⟩
  · exact of_oge (Host.reduce_andi_all _ _ _ _ _ h5 i)
  · exact of_oge (Host.reduce_andi_all _ _ _ _ _ h7 i)

end Cert.Pre_scales_ok

end
-- ==== Proof.lean ====
/-
  The proof of `Cert.Claim` (proof/Defs.lean): the generated frames, and the algebraic claim, that over the extended reals
  the kernel's four results are the reference's where the scales satisfy the precondition.

  * Angles.lean, Tables.lean, RefTables.lean — the tables of cosines and sines: the kernel's at a token and a lane, the
    reference's, and that they are equal.
  * RowAlgebra.lean, Rows.lean, Row.lean — one row of 256 numbers: the kernel's formulas for its gradient and for what it
    adds to the gradient of the gain, the reference's, and that they are equal.
  * Trip.lean, LoopsQ.lean, LoopsK.lean, StateQ.lean, StateK.lean, Block.lean, Factors.lean, PointBlock.lean, PointOut.lean —
    what one grid point of the kernel leaves.
  * Points.lean, Geometry.lean, Results.lean — what all grid points leave in the four result arrays.
  * RefRead.lean, RefRun.lean — the reference's four results.
  * Agree.lean, Scales.lean — the two programs' formulas are equal; the precondition read back.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Results
public import proofs.«01_k».proof.Proof.RefRun
public import proofs.«01_k».proof.Proof.Agree
public import proofs.«01_k».proof.Proof.Scales

@[expose] public section

noncomputable section

namespace Cert.Proof

open Idealize.ShloMosaic Idealize.ShloMosaic.TcCoe Idealize.SL.Sem Cert.Row

section

variable (m : (ℓ : Loc Cert.KernelIdeal.nD Cert.KernelIdeal.τ Cert.KernelIdeal.sig) → Buf (Elt Ideal) ℓ)
  (c : Dev Cert.KernelIdeal.nD)

/-- The kernel's run, its results named. -/
theorem kernelRun (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
      r.2.mem ((c.tc : Thread Cert.KernelIdeal.nD Cert.KernelIdeal.τ).loc Cert.KernelIdeal.main_v16_0) = Cert.KernelIdeal.Value.result12 m c
      ∧ r.2.mem ((c.tc : Thread Cert.KernelIdeal.nD Cert.KernelIdeal.τ).loc Cert.KernelIdeal.main_v16_1) = Cert.KernelIdeal.Value.result13 m c
      ∧ r.2.mem ((c.tc : Thread Cert.KernelIdeal.nD Cert.KernelIdeal.τ).loc Cert.KernelIdeal.main_v16_2) = Cert.KernelIdeal.Value.result14 m c
      ∧ r.2.mem ((c.tc : Thread Cert.KernelIdeal.nD Cert.KernelIdeal.τ).loc Cert.KernelIdeal.main_v16_3) = Cert.KernelIdeal.Value.result15 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) := by
  refine (θ_run _ _ _).mono (fun r h c => ?_) (Cert.KernelIdeal.Value.run_blocks m ρ)
  obtain ⟨h1, h2, h3, h4, hargs⟩ := h c
  exact ⟨h1.trans (Cert.KernelIdeal.Value.final12 m c), h2.trans (Cert.KernelIdeal.Value.final13 m c),
    h3.trans (Cert.KernelIdeal.Value.final14 m c), h4.trans (Cert.KernelIdeal.Value.final15 m c), hargs⟩

end

/-- Equal arguments under the precondition give equal results. -/
theorem algebraic : Cert.algebraic_KernelIdeal_ReferenceIdeal_pre_scales_ok (hKernelIdeal := Cert.KernelIdeal.Gen.facts)
    (hReferenceIdeal := Cert.ReferenceIdeal.Gen.facts) (hPre_scales_ok := Cert.Pre_scales_ok.facts) := by
  intro m g m' g' hpre hargs
  refine ⟨Cert.KernelIdeal.Value.result12 m, Cert.KernelIdeal.Value.result13 m, Cert.KernelIdeal.Value.result14 m,
    Cert.KernelIdeal.Value.result15 m, kernelRun m g, ?_⟩
  refine (θ_run (Cert.ReferenceIdeal.defs (F := Ideal)) _ _).mono (fun r h c => ?_) (Cert.ReferenceIdeal.Value.run_results m' g')
  obtain ⟨h1, h2, h3, h4, hkeep⟩ := h c
  obtain ⟨a0, a1, a2, a3, a4, a5, a6, a7, a8, a9, a10⟩ := hargs c
  have e0 : Cert.ReferenceIdeal.Value.arg0 m' c = Cert.KernelIdeal.Value.arr0 m c := a0
  have e1 : Cert.ReferenceIdeal.Value.arg1 m' c = Cert.KernelIdeal.Value.arr1 m c := a1
  have e2 : Cert.ReferenceIdeal.Value.arg2 m' c = Cert.KernelIdeal.Value.arr2 m c := a2
  have e3 : Cert.ReferenceIdeal.Value.arg3 m' c = Cert.KernelIdeal.Value.arr3 m c := a3
  have e4 : Cert.ReferenceIdeal.Value.arg4 m' c = Cert.KernelIdeal.Value.arr4 m c := a4
  have e5 : Cert.ReferenceIdeal.Value.arg5 m' c = Cert.KernelIdeal.Value.arr5 m c := a5
  have e6 : Cert.ReferenceIdeal.Value.arg6 m' c = Cert.KernelIdeal.Value.arr6 m c := a6
  have e7 : Cert.ReferenceIdeal.Value.arg7 m' c = Cert.KernelIdeal.Value.arr7 m c := a7
  have e8 : Cert.ReferenceIdeal.Value.arg8 m' c = Cert.KernelIdeal.Value.arr8 m c := a8
  have e9 : Cert.ReferenceIdeal.Value.arg9 m' c = Cert.KernelIdeal.Value.arr9 m c := a9
  have e10 : Cert.ReferenceIdeal.Value.arg10 m' c = Cert.KernelIdeal.Value.arr10 m c := a10
  obtain ⟨s1, s3, s5, s7⟩ := letI := Cert.Pre_scales_ok.facts; Cert.Pre_scales_ok.scales (hpre c)
  refine ⟨h1.trans (funext fun i => ?_), h2.trans (funext fun i => ?_), h3.trans (funext fun i => ?_),
    h4.trans (funext fun i => ?_), hkeep⟩
  · unfold Cert.ReferenceIdeal.Value.gradQ Cert.KernelIdeal.Value.result12
    rw [e0, e1, e4, e5, e8, e10, freq_eq]
    exact (gradX_eq _ _ _ _ _ _ _ _ _ _ _ s1 s5).symm
  · unfold Cert.ReferenceIdeal.Value.gradK Cert.KernelIdeal.Value.result13
    rw [e2, e3, e6, e7, e9, e10, freq_eq]
    exact (gradX_eq _ _ _ _ _ _ _ _ _ _ _ s3 s7).symm
  · unfold Cert.ReferenceIdeal.Value.gainQ Cert.KernelIdeal.Value.result14
    rw [e0, e1, e4, e5, e10, freq_eq, c0_eq, zero_add]
    exact Finset.sum_congr rfl fun b _ => Finset.sum_congr rfl fun s _ => Finset.sum_congr rfl fun k _ =>
      (gradG_eq _ _ _ _ _ _ _ _ _ _ s1).symm
  · unfold Cert.ReferenceIdeal.Value.gainK Cert.KernelIdeal.Value.result15
    rw [e2, e3, e6, e7, e10, freq_eq, c0_eq, zero_add]
    exact Finset.sum_congr rfl fun b _ => Finset.sum_congr rfl fun s _ => Finset.sum_congr rfl fun k _ =>
      (gradG_eq _ _ _ _ _ _ _ _ _ _ s3).symm

theorem claim : Cert.Claim :=
  ⟨Cert.Kernel.Gen.facts, Cert.KernelIdeal.Gen.facts, Cert.ReferenceIdeal.Gen.facts, Cert.Pre_scales_ok.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
